-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "k3" .f32 0x3D922279#32 (((2 * (Real.sqrt (2 * Real.pi⁻¹))) * (8943 / 200000) : ℝ) : EReal)
  ∧ IdealRules.named_const.Statement Cert.KernelIdeal.κ "k1" .f32 0x3FCC422A#32 ((2 * (Real.sqrt (2 * Real.pi⁻¹)) : ℝ) : EReal)

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S26x1024x5120 : Shape := ⟨3, ![26, 1024, 5120]⟩
abbrev S26x1024x40x128 : Shape := ⟨4, ![26, 1024, 40, 128]⟩
abbrev S_ : Shape := ⟨0, ![]⟩
abbrev S26x1024x40 : Shape := ⟨3, ![26, 1024, 40]⟩

class Facts : Prop where
  bitsLt_bf16_f32 : FTy.bits .bf16 < FTy.bits .f32
  shapeCasts_S26x1024x5120_S26x1024x40x128 : S26x1024x5120.ShapeCasts S26x1024x40x128
  reducesTo_S26x1024x40x128_S26x1024x40_d3 : S26x1024x40x128.ReducesTo [3] S26x1024x40
  h_S_ : 0 < S_.numel
  bcast_S_S26x1024x40x128 : S_.BroadcastsInDim S26x1024x40x128 (![] : Fin 0 → Fin S26x1024x40x128.rank)
  bcast_S_S26x1024x40 : S_.BroadcastsInDim S26x1024x40 (![] : Fin 0 → Fin S26x1024x40.rank)

variable [Facts]

def fn_where {F : FTy → Type} [FloatOps F] (arg0 : IVec S26x1024x40x128 1) (arg1 : FVec F S26x1024x40x128 .f32) (arg2 : FVec F S_ .f32) : FVec F S26x1024x40x128 .f32 :=
  let v0 : FVec F S_ .f32 := id arg2
  let v1 : FVec F S26x1024x40x128 .f32 := broadcastInDim S26x1024x40x128 ![] bcast_S_S26x1024x40x128 v0
  let v2 : FVec F S26x1024x40x128 .f32 := select arg0 arg1 v1
  v2

def fn {F : FTy → Type} [FloatOps F] (main_arg0 : FVec F S26x1024x5120 .bf16) : IVec S26x1024x40 1 :=
  let main_v0 : FVec F S26x1024x5120 .f32 := (extf .f32 · bitsLt_bf16_f32) main_arg0
  let main_v1 : FVec F S26x1024x40x128 .f32 := shapeCast S26x1024x40x128 main_v0 shapeCasts_S26x1024x5120_S26x1024x40x128
  let main_v2 : FVec F S26x1024x40x128 .f32 := Host.absf main_v1
  let main_cst : FVec F S_ .f32 := constant S_ .f32 0xFF800000#32
  let main_v3 : FVec F S26x1024x40 .f32 := (fun x v => Host.reduce FloatOps.maximumf x v reducesTo_S26x1024x40x128_S26x1024x40_d3 h_S_) main_v2 main_cst
  let main_cst_0 : FVec F S_ .f32 := constant S_ .f32 0xC0800000#32
  let main_v4 : FVec F S26x1024x40x128 .f32 := broadcastInDim S26x1024x40x128 ![] bcast_S_S26x1024x40x128 main_cst_0
  let main_v5 : IVec S26x1024x40x128 1 := cmpf .oge main_v1 main_v4
  let main_v6 : FVec F S26x1024x40x128 .f32 := Host.absf main_v1
  let main_cst_1 : FVec F S_ .f32 := constant S_ .f32 0x00000000#32
  let main_v7 : FVec F S26x1024x40x128 .f32 := fn_where (F := F) main_v5 main_v6 main_cst_1
  let main_cst_2 : FVec F S_ .f32 := constant S_ .f32 0xFF800000#32
  let main_v8 : FVec F S26x1024x40 .f32 := (fun x v => Host.reduce FloatOps.maximumf x v reducesTo_S26x1024x40x128_S26x1024x40_d3 h_S_) main_v7 main_cst_2
  let main_cst_3 : FVec F S_ .f32 := constant S_ .f32 0x00000000#32
  let main_v9 : FVec F S26x1024x40 .f32 := broadcastInDim S26x1024x40 ![] bcast_S_S26x1024x40 main_cst_3
  let main_v10 : IVec S26x1024x40 1 := cmpf .oeq main_v3 main_v9
  let main_cst_4 : FVec F S_ .f32 := constant S_ .f32 0x12800000#32
  let main_v11 : FVec F S26x1024x40 .f32 := broadcastInDim S26x1024x40 ![] bcast_S_S26x1024x40 main_cst_4
  let main_v12 : IVec S26x1024x40 1 := cmpf .oge main_v8 main_v11
  let main_cst_5 : FVec F S_ .f32 := constant S_ .f32 0x7F000000#32
  let main_v13 : FVec F S26x1024x40 .f32 := broadcastInDim S26x1024x40 ![] bcast_S_S26x1024x40 main_cst_5
  let main_v14 : IVec S26x1024x40 1 := cmpf .ole main_v3 main_v13
  let main_v15 : IVec S26x1024x40 1 := andi main_v12 main_v14
  let main_v16 : IVec S26x1024x40 1 := ori main_v10 main_v15
  main_v16
-- ==== Kernel.lean ====
abbrev S26x1024x5120 : Shape := ⟨3, ![26, 1024, 5120]⟩
abbrev S26624x5120 : Shape := ⟨2, ![26624, 5120]⟩
abbrev S26624x40 : Shape := ⟨2, ![26624, 40]⟩
abbrev S256x5120 : Shape := ⟨2, ![256, 5120]⟩
abbrev S256x40 : Shape := ⟨2, ![256, 40]⟩
abbrev S32x128 : Shape := ⟨2, ![32, 128]⟩
abbrev S32 : Shape := ⟨1, ![32]⟩
abbrev S32x1 : Shape := ⟨2, ![32, 1]⟩

abbrev nBuf : Space → Nat
  | .hbm => 5
  | .vmem => 8
  | .smem => 0
  | _ => 0

abbrev bufTy : (tb : Table) → Fin (tcTables nBuf tb) → BufTy
  | .hbm, ⟨0, _⟩ => ⟨S26x1024x5120, .bf16⟩
  | .hbm, ⟨1, _⟩ => ⟨S26624x5120, .bf16⟩
  | .hbm, ⟨2, _⟩ => ⟨S26624x5120, .bf16⟩
  | .hbm, ⟨3, _⟩ => ⟨S26624x5120, .fp8e4m3⟩
  | .hbm, ⟨4, _⟩ => ⟨S26624x40, .f32⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S256x5120, .fp8e4m3⟩
  | .local _ .vmem, ⟨5, _⟩ => ⟨S256x5120, .fp8e4m3⟩
  | .local _ .vmem, ⟨6, _⟩ => ⟨S256x40, .f32⟩
  | .local _ .vmem, ⟨7, _⟩ => ⟨S256x40, .f32⟩
  | _, _ => ⟨S26x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![104], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v49 : Index := Scalar.indexCast v2
  let c0_9 : Index := 0#32
  ![v49.toNat, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v57 : Index := Scalar.indexCast v2
  let c128 : Index := 128#32
  ![v57.toNat, 128]
def k0_off4 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v103 : Index := Scalar.indexCast v2
  let c1 : Index := 1#32
  ![v103.toNat, 1]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v111 : Index := Scalar.indexCast v2
  let c256 : Index := 256#32
  ![v111.toNat, 256]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v157 : Index := Scalar.indexCast v2
  let c2 : Index := 2#32
  ![v157.toNat, 2]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v165 : Index := Scalar.indexCast v2
  let c384 : Index := 384#32
  ![v165.toNat, 384]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v211 : Index := Scalar.indexCast v2
  let c3 : Index := 3#32
  ![v211.toNat, 3]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v219 : Index := Scalar.indexCast v2
  let c512 : Index := 512#32
  ![v219.toNat, 512]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v265 : Index := Scalar.indexCast v2
  let c4 : Index := 4#32
  ![v265.toNat, 4]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v273 : Index := Scalar.indexCast v2
  let c640 : Index := 640#32
  ![v273.toNat, 640]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v319 : Index := Scalar.indexCast v2
  let c5 : Index := 5#32
  ![v319.toNat, 5]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v327 : Index := Scalar.indexCast v2
  let c768 : Index := 768#32
  ![v327.toNat, 768]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v373 : Index := Scalar.indexCast v2
  let c6 : Index := 6#32
  ![v373.toNat, 6]
def k0_off15 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v381 : Index := Scalar.indexCast v2
  let c896 : Index := 896#32
  ![v381.toNat, 896]
def k0_off16 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v427 : Index := Scalar.indexCast v2
  let c7 : Index := 7#32
  ![v427.toNat, 7]
def k0_off17 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v435 : Index := Scalar.indexCast v2
  let c1024 : Index := 1024#32
  ![v435.toNat, 1024]
def k0_off18 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v481 : Index := Scalar.indexCast v2
  let c8 : Index := 8#32
  ![v481.toNat, 8]
def k0_off19 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v489 : Index := Scalar.indexCast v2
  let c1152 : Index := 1152#32
  ![v489.toNat, 1152]
def k0_off20 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v535 : Index := Scalar.indexCast v2
  let c9 : Index := 9#32
  ![v535.toNat, 9]
def k0_off21 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v543 : Index := Scalar.indexCast v2
  let c1280 : Index := 1280#32
  ![v543.toNat, 1280]
def k0_off22 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v589 : Index := Scalar.indexCast v2
  let c10 : Index := 10#32
  ![v589.toNat, 10]
def k0_off23 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v597 : Index := Scalar.indexCast v2
  let c1408 : Index := 1408#32
  ![v597.toNat, 1408]
def k0_off24 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v643 : Index := Scalar.indexCast v2
  let c11 : Index := 11#32
  ![v643.toNat, 11]
def k0_off25 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v651 : Index := Scalar.indexCast v2
  let c1536 : Index := 1536#32
  ![v651.toNat, 1536]
def k0_off26 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v697 : Index := Scalar.indexCast v2
  let c12 : Index := 12#32
  ![v697.toNat, 12]
def k0_off27 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v705 : Index := Scalar.indexCast v2
  let c1664 : Index := 1664#32
  ![v705.toNat, 1664]
def k0_off28 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v751 : Index := Scalar.indexCast v2
  let c13 : Index := 13#32
  ![v751.toNat, 13]
def k0_off29 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v759 : Index := Scalar.indexCast v2
  let c1792 : Index := 1792#32
  ![v759.toNat, 1792]
def k0_off30 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v805 : Index := Scalar.indexCast v2
  let c14 : Index := 14#32
  ![v805.toNat, 14]
def k0_off31 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v813 : Index := Scalar.indexCast v2
  let c1920 : Index := 1920#32
  ![v813.toNat, 1920]
def k0_off32 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v859 : Index := Scalar.indexCast v2
  let c15 : Index := 15#32
  ![v859.toNat, 15]
def k0_off33 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v867 : Index := Scalar.indexCast v2
  let c2048 : Index := 2048#32
  ![v867.toNat, 2048]
def k0_off34 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v913 : Index := Scalar.indexCast v2
  let c16 : Index := 16#32
  ![v913.toNat, 16]
def k0_off35 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v921 : Index := Scalar.indexCast v2
  let c2176 : Index := 2176#32
  ![v921.toNat, 2176]
def k0_off36 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v967 : Index := Scalar.indexCast v2
  let c17 : Index := 17#32
  ![v967.toNat, 17]
def k0_off37 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v975 : Index := Scalar.indexCast v2
  let c2304 : Index := 2304#32
  ![v975.toNat, 2304]
def k0_off38 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1021 : Index := Scalar.indexCast v2
  let c18 : Index := 18#32
  ![v1021.toNat, 18]
def k0_off39 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1029 : Index := Scalar.indexCast v2
  let c2432 : Index := 2432#32
  ![v1029.toNat, 2432]
def k0_off40 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1075 : Index := Scalar.indexCast v2
  let c19 : Index := 19#32
  ![v1075.toNat, 19]
def k0_off41 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1083 : Index := Scalar.indexCast v2
  let c2560 : Index := 2560#32
  ![v1083.toNat, 2560]
def k0_off42 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1129 : Index := Scalar.indexCast v2
  let c20 : Index := 20#32
  ![v1129.toNat, 20]
def k0_off43 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1137 : Index := Scalar.indexCast v2
  let c2688 : Index := 2688#32
  ![v1137.toNat, 2688]
def k0_off44 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1183 : Index := Scalar.indexCast v2
  let c21 : Index := 21#32
  ![v1183.toNat, 21]
def k0_off45 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1191 : Index := Scalar.indexCast v2
  let c2816 : Index := 2816#32
  ![v1191.toNat, 2816]
def k0_off46 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1237 : Index := Scalar.indexCast v2
  let c22 : Index := 22#32
  ![v1237.toNat, 22]
def k0_off47 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1245 : Index := Scalar.indexCast v2
  let c2944 : Index := 2944#32
  ![v1245.toNat, 2944]
def k0_off48 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1291 : Index := Scalar.indexCast v2
  let c23 : Index := 23#32
  ![v1291.toNat, 23]
def k0_off49 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1299 : Index := Scalar.indexCast v2
  let c3072 : Index := 3072#32
  ![v1299.toNat, 3072]
def k0_off50 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1345 : Index := Scalar.indexCast v2
  let c24 : Index := 24#32
  ![v1345.toNat, 24]
def k0_off51 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1353 : Index := Scalar.indexCast v2
  let c3200 : Index := 3200#32
  ![v1353.toNat, 3200]
def k0_off52 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1399 : Index := Scalar.indexCast v2
  let c25 : Index := 25#32
  ![v1399.toNat, 25]
def k0_off53 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1407 : Index := Scalar.indexCast v2
  let c3328 : Index := 3328#32
  ![v1407.toNat, 3328]
def k0_off54 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1453 : Index := Scalar.indexCast v2
  let c26 : Index := 26#32
  ![v1453.toNat, 26]
def k0_off55 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1461 : Index := Scalar.indexCast v2
  let c3456 : Index := 3456#32
  ![v1461.toNat, 3456]
def k0_off56 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1507 : Index := Scalar.indexCast v2
  let c27 : Index := 27#32
  ![v1507.toNat, 27]
def k0_off57 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1515 : Index := Scalar.indexCast v2
  let c3584 : Index := 3584#32
  ![v1515.toNat, 3584]
def k0_off58 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1561 : Index := Scalar.indexCast v2
  let c28 : Index := 28#32
  ![v1561.toNat, 28]
def k0_off59 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1569 : Index := Scalar.indexCast v2
  let c3712 : Index := 3712#32
  ![v1569.toNat, 3712]
def k0_off60 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1615 : Index := Scalar.indexCast v2
  let c29 : Index := 29#32
  ![v1615.toNat, 29]
def k0_off61 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1623 : Index := Scalar.indexCast v2
  let c3840 : Index := 3840#32
  ![v1623.toNat, 3840]
def k0_off62 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1669 : Index := Scalar.indexCast v2
  let c30 : Index := 30#32
  ![v1669.toNat, 30]
def k0_off63 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1677 : Index := Scalar.indexCast v2
  let c3968 : Index := 3968#32
  ![v1677.toNat, 3968]
def k0_off64 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1723 : Index := Scalar.indexCast v2
  let c31 : Index := 31#32
  ![v1723.toNat, 31]
def k0_off65 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1731 : Index := Scalar.indexCast v2
  let c4096 : Index := 4096#32
  ![v1731.toNat, 4096]
def k0_off66 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1777 : Index := Scalar.indexCast v2
  let c32 : Index := 32#32
  ![v1777.toNat, 32]
def k0_off67 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1785 : Index := Scalar.indexCast v2
  let c4224 : Index := 4224#32
  ![v1785.toNat, 4224]
def k0_off68 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1831 : Index := Scalar.indexCast v2
  let c33 : Index := 33#32
  ![v1831.toNat, 33]
def k0_off69 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1839 : Index := Scalar.indexCast v2
  let c4352 : Index := 4352#32
  ![v1839.toNat, 4352]
def k0_off70 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1885 : Index := Scalar.indexCast v2
  let c34 : Index := 34#32
  ![v1885.toNat, 34]
def k0_off71 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1893 : Index := Scalar.indexCast v2
  let c4480 : Index := 4480#32
  ![v1893.toNat, 4480]
def k0_off72 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1939 : Index := Scalar.indexCast v2
  let c35 : Index := 35#32
  ![v1939.toNat, 35]
def k0_off73 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1947 : Index := Scalar.indexCast v2
  let c4608 : Index := 4608#32
  ![v1947.toNat, 4608]
def k0_off74 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v1993 : Index := Scalar.indexCast v2
  let c36 : Index := 36#32
  ![v1993.toNat, 36]
def k0_off75 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2001 : Index := Scalar.indexCast v2
  let c4736 : Index := 4736#32
  ![v2001.toNat, 4736]
def k0_off76 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2047 : Index := Scalar.indexCast v2
  let c37 : Index := 37#32
  ![v2047.toNat, 37]
def k0_off77 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2055 : Index := Scalar.indexCast v2
  let c4864 : Index := 4864#32
  ![v2055.toNat, 4864]
def k0_off78 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2101 : Index := Scalar.indexCast v2
  let c38 : Index := 38#32
  ![v2101.toNat, 38]
def k0_off79 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2109 : Index := Scalar.indexCast v2
  let c4992 : Index := 4992#32
  ![v2109.toNat, 4992]
def k0_off80 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v2155 : Index := Scalar.indexCast v2
  let c39 : Index := 39#32
  ![v2155.toNat, 39]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "k1" => some ((2 * (Real.sqrt (2 * Real.pi⁻¹)) : ℝ) : EReal)
  | "k3" => some (((2 * (Real.sqrt (2 * Real.pi⁻¹))) * (8943 / 200000) : ℝ) : EReal)
  | _ => none
-- ==== ReferenceIdeal.lean ====
abbrev S26x1024x5120 : Shape := ⟨3, ![26, 1024, 5120]⟩
abbrev S26624x5120 : Shape := ⟨2, ![26624, 5120]⟩
abbrev S26624x40 : Shape := ⟨2, ![26624, 40]⟩
abbrev S26624x40x128 : Shape := ⟨3, ![26624, 40, 128]⟩
abbrev S26624x40x1 : Shape := ⟨3, ![26624, 40, 1]⟩

abbrev nBuf : Space → Nat
  | .hbm => 5
  | .vmem => 4
  | .smem => 0
  | _ => 0

abbrev bufTy : (tb : Table) → Fin (tcTables nBuf tb) → BufTy
  | .hbm, ⟨0, _⟩ => ⟨S26x1024x5120, .bf16⟩
  | .hbm, ⟨1, _⟩ => ⟨S26624x5120, .bf16⟩
  | .hbm, ⟨2, _⟩ => ⟨S26624x5120, .bf16⟩
  | .hbm, ⟨3, _⟩ => ⟨S26624x5120, .fp8e4m3⟩
  | .hbm, ⟨4, _⟩ => ⟨S26624x40, .f32⟩
  | .local _ .vmem, ⟨0, _⟩ => ⟨S26624x5120, .bf16⟩
  | .local _ .vmem, ⟨1, _⟩ => ⟨S26624x5120, .bf16⟩
  | .local _ .vmem, ⟨2, _⟩ => ⟨S26624x5120, .fp8e4m3⟩
  | .local _ .vmem, ⟨3, _⟩ => ⟨S26624x40, .f32⟩
  | _, _ => ⟨S26x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "gelu_a" => some ((8943 / 200000 : ℝ) : EReal)
  | "gelu_c" => some ((Real.sqrt (2 * Real.pi⁻¹) : ℝ) : EReal)
  | _ => none

abbrev grid0 : Pipeline.Grid := .none

abbrev stage0_0 : Fin 1 → Memref sig .tc .vmem S26624x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26624x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S26624x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S26624x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_groups_in_range

@[expose] public section
noncomputable section
namespace Cert.Proof.Frames
open Idealize.ShloMosaic Idealize.SL.Sem

/-- The kernel runs to its end, leaves its argument as it was and every semaphore at zero. -/
theorem kernel : Cert.quiescent_Kernel := fun m ρ _ => Cert.Kernel.Gen.frame m ρ

/-- The same of the kernel with its named constants. -/
theorem kernel_ideal : Cert.quiescent_KernelIdeal := fun m ρ _ => Cert.KernelIdeal.Gen.frame m ρ

/-- The same of the reference with its named constants. -/
theorem reference_ideal : Cert.quiescent_ReferenceIdeal := fun m ρ _ => Cert.ReferenceIdeal.Gen.frame m ρ

/-- The kernel with its named constants, on arguments in range. -/
theorem kernel_ideal_pre : Cert.quiescent_KernelIdeal_pre_groups_in_range := fun m ρ _ => Cert.KernelIdeal.Gen.frame m ρ

/-- The reference with its named constants, on arguments in range. -/
theorem reference_ideal_pre : Cert.quiescent_ReferenceIdeal_pre_groups_in_range := fun m ρ _ => Cert.ReferenceIdeal.Gen.frame m ρ

/-- The two constants the kernel names are read as the values the names stand for. -/
theorem preserves : Cert.preserves_Kernel_KernelIdeal :=
  ⟨IdealRules.named_const.statement Cert.KernelIdeal.κ "k3" .f32 0x3D922279#32 _ rfl,
   IdealRules.named_const.statement Cert.KernelIdeal.κ "k1" .f32 0x3FCC422A#32 _ rfl⟩

end Cert.Proof.Frames
end
-- ==== Proof.Pieces.lean ====
module

public import proofs.«01_k».proof.Proof.Gen.KernelIdeal.Value

@[expose] public section
set_option maxRecDepth 16384
noncomputable section
namespace Cert.KernelIdeal.Block
open Idealize.ShloMosaic Idealize.ShloMosaic.TcCoe Idealize.ShloMosaic.Tactic
open Idealize.SL Idealize.SL.Sem Cert.KernelIdeal.Gen
variable {F : FTy → Type} [FloatOps F] [Named F]

/-- The scale of each of a group's 32 rows. -/
def scaleOf (v : Vec F S32x128 .bf16) : FVec F S32x1 .f32 := k0_pay4 v
/-- A group's codes: the clipped quotients in the eight-bit format. -/
def codeOf (v : Vec F S32x128 .bf16) : FVec F S32x128 .fp8e4m3 := k0_pay7 (k0_pay5 v) k0_pay6
/-- A group's values read back from its codes. -/
def backOf (v : Vec F S32x128 .bf16) : FVec F S32x128 .bf16 := k0_pay8 (k0_pay4 v) (k0_pay5 v) k0_pay6

/-- Trip `r`, group `g` of a block: its 32 rows and 128 columns. -/
def grp (X : Vec F S256x5120 .bf16) (r g : ℕ) (hr : r < 8) (hg : g < 40) : Vec F S32x128 .bf16 :=
  fun z => X fun a => match a with
    | ⟨0, _⟩ => ⟨32 * r + (z 0).val, by have h : (z 0).val < 32 := (z 0).isLt; show _ < 256; omega⟩
    | ⟨1, _⟩ => ⟨128 * g + (z 1).val, by have h : (z 1).val < 128 := (z 1).isLt; show _ < 5120; omega⟩

/-- What the block's scales are: at row `y 0` and group `y 1`. -/
def scaleAt (X : Vec F S256x5120 .bf16) (y : S256x40.Idx) : F .f32 :=
  have h0 : (y 0).val < 256 := (y 0).isLt
  scaleOf (grp X ((y 0).val / 32) (y 1).val (by omega) (y 1).isLt) fun a => match a with
    | ⟨0, _⟩ => ⟨(y 0).val % 32, Nat.mod_lt _ (by norm_num)⟩
    | ⟨1, _⟩ => ⟨0, by norm_num⟩

/-- Where a block's element lies in its group. -/
def inGrp (y : S256x5120.Idx) : S32x128.Idx := fun a => match a with
    | ⟨0, _⟩ => ⟨(y 0).val % 32, Nat.mod_lt _ (by norm_num)⟩
    | ⟨1, _⟩ => ⟨(y 1).val % 128, Nat.mod_lt _ (by norm_num)⟩

/-- What the block's codes are. -/
def codeAt (X : Vec F S256x5120 .bf16) (y : S256x5120.Idx) : F .fp8e4m3 :=
  have h0 : (y 0).val < 256 := (y 0).isLt
  have h1 : (y 1).val < 5120 := (y 1).isLt
  codeOf (grp X ((y 0).val / 32) ((y 1).val / 128) (by omega) (by omega)) (inGrp y)

/-- What the block's values read back are. -/
def backAt (X : Vec F S256x5120 .bf16) (y : S256x5120.Idx) : F .bf16 :=
  have h0 : (y 0).val < 256 := (y 0).isLt
  have h1 : (y 1).val < 5120 := (y 1).isLt
  backOf (grp X ((y 0).val / 32) ((y 1).val / 128) (by omega) (by omega)) (inGrp y)

variable (X : Vec F S256x5120 .bf16)

/-- A 32 by 128 read at the offsets of trip `r` and group `g` is the group. -/
theorem ld_grp (r g : ℕ) (hr : r < 8) (hg : g < 40) (o : Fin 2 → ℕ) (ho : o = ![32 * r, 128 * g])
    (inb : ∀ a, o a + S32x128.size a ≤ S256x5120.size a) :
    View.ld X (Rect.unit (s := S256x5120) o S32x128.size inb) = grp X r g hr hg := by
  subst ho
  funext z
  show X _ = X _
  congr 1
  funext a
  apply Fin.ext
  match a with
  | ⟨0, _⟩ => show 32 * r + 1 * (z 0).val = 32 * r + (z 0).val; omega
  | ⟨1, _⟩ => show 128 * g + 1 * (z 1).val = 128 * g + (z 1).val; omega

/-- The block's scale at a row of trip `r` and group `g`. -/
theorem scaleAt_eq (r g : ℕ) (hr : r < 8) (hg : g < 40) (y : S256x40.Idx) (x : S32x1.Idx)
    (h0 : (y 0).val = 32 * r + (x 0).val) (h1 : (y 1).val = g) :
    scaleAt X y = scaleOf (grp X r g hr hg) x := by
  have hx : (x 0).val < 32 := (x 0).isLt
  have hx1 : (x 1).val < 1 := (x 1).isLt
  obtain rfl : r = (y 0).val / 32 := by omega
  subst h1
  unfold scaleAt
  dsimp only
  refine congrArg _ (funext fun a => Fin.ext ?_)
  match a with
  | ⟨0, _⟩ => show (y 0).val % 32 = (x 0).val; omega
  | ⟨1, _⟩ => show 0 = (x 1).val; omega

/-- Where a block's element of trip `r` and group `g` lies in the group. -/
theorem inGrp_eq (r g : ℕ) (y : S256x5120.Idx) (x : S32x128.Idx)
    (h0 : (y 0).val = 32 * r + (x 0).val) (h1 : (y 1).val = 128 * g + (x 1).val) : inGrp y = x := by
  have hx : (x 0).val < 32 := (x 0).isLt
  have hx1 : (x 1).val < 128 := (x 1).isLt
  funext a
  apply Fin.ext
  match a with
  | ⟨0, _⟩ => show (y 0).val % 32 = (x 0).val; omega
  | ⟨1, _⟩ => show (y 1).val % 128 = (x 1).val; omega

/-- The block's code at an element of trip `r` and group `g`. -/
theorem codeAt_eq (r g : ℕ) (hr : r < 8) (hg : g < 40) (y : S256x5120.Idx) (x : S32x128.Idx)
    (h0 : (y 0).val = 32 * r + (x 0).val) (h1 : (y 1).val = 128 * g + (x 1).val) :
    codeAt X y = codeOf (grp X r g hr hg) x := by
  have hx : (x 0).val < 32 := (x 0).isLt
  have hx1 : (x 1).val < 128 := (x 1).isLt
  have hi := inGrp_eq r g y x h0 h1
  obtain rfl : r = (y 0).val / 32 := by omega
  obtain rfl : g = (y 1).val / 128 := by omega
  unfold codeAt
  rw [hi]

/-- The block's value read back at an element of trip `r` and group `g`. -/
theorem backAt_eq (r g : ℕ) (hr : r < 8) (hg : g < 40) (y : S256x5120.Idx) (x : S32x128.Idx)
    (h0 : (y 0).val = 32 * r + (x 0).val) (h1 : (y 1).val = 128 * g + (x 1).val) :
    backAt X y = backOf (grp X r g hr hg) x := by
  have hx : (x 0).val < 32 := (x 0).isLt
  have hx1 : (x 1).val < 128 := (x 1).isLt
  have hi := inGrp_eq r g y x h0 h1
  obtain rfl : r = (y 0).val / 32 := by omega
  obtain rfl : g = (y 1).val / 128 := by omega
  unfold backAt
  rw [hi]

/-- One column of 32 scales of trip `r` and group `g` lies in the block. -/
theorem scale_inb (r g : ℕ) (hr : r < 8) (hg : g < 40) (o : Fin 2 → ℕ) (ho : o = ![32 * r, g]) :
    ∀ a, o a + (![32, 1] : Fin 2 → ℕ) a ≤ S256x40.size a := by
  subst ho
  intro a
  match a with
  | ⟨0, _⟩ => show 32 * r + 32 ≤ 256; omega
  | ⟨1, _⟩ => show g + 1 ≤ 40; omega

/-- A group's scales stored at trip `r` and column `g` agree with the block's scales. -/
theorem piece_scale (r g : ℕ) (hr : r < 8) (o o' : Fin 2 → ℕ) (w : Vec F S32x1 .f32)
    (inb' : ∀ a, o' a + (![32, 1] : Fin 2 → ℕ) a ≤ S256x40.size a) (ho' : o' = ![32 * r, g])
    (inb : ∀ a, o a + S32x128.size a ≤ S256x5120.size a)
    (hw : w = scaleOf (View.ld X (Rect.unit (s := S256x5120) o S32x128.size inb)))
    (ho : o = ![32 * r, 128 * g]) (x : S32x1.Idx) :
    w x = scaleAt X ((Rect.unit (s := S256x40) o' ![32, 1] inb').emb x) := by
  have hg : g < 40 := by have := inb' 1; rw [ho'] at this; exact this
  rw [hw, ld_grp X r g hr hg o ho]
  subst ho'
  refine (scaleAt_eq X r g hr hg _ x ?_ ?_).symm
  · show 32 * r + 1 * (x 0).val = _; omega
  · have h1 : (x 1).val < 1 := (x 1).isLt
    show g + 1 * (x 1).val = g; omega

/-- A group's codes stored at trip `r` and group `g` agree with the block's codes. -/
theorem piece_code (r g : ℕ) (hr : r < 8) (o : Fin 2 → ℕ) (w : Vec F S32x128 .fp8e4m3)
    (inb' : ∀ a, o a + (![32, 128] : Fin 2 → ℕ) a ≤ S256x5120.size a) (ho : o = ![32 * r, 128 * g])
    (hw : w = codeOf (View.ld X (Rect.unit (s := S256x5120) o S32x128.size inb'))) (x : S32x128.Idx) :
    w x = codeAt X ((Rect.unit (s := S256x5120) o ![32, 128] inb').emb x) := by
  have hg : g < 40 := by
    have := inb' 1; rw [ho] at this; change 128 * g + 128 ≤ 5120 at this; omega
  rw [hw, ld_grp X r g hr hg o ho]
  subst ho
  refine (codeAt_eq X r g hr hg _ x ?_ ?_).symm
  · show 32 * r + 1 * (x 0).val = _; omega
  · show 128 * g + 1 * (x 1).val = _; omega

/-- A group's values read back, stored at trip `r` and group `g`, agree with the block's. -/
theorem piece_back (r g : ℕ) (hr : r < 8) (o : Fin 2 → ℕ) (w : Vec F S32x128 .bf16)
    (inb' : ∀ a, o a + (![32, 128] : Fin 2 → ℕ) a ≤ S256x5120.size a) (ho : o = ![32 * r, 128 * g])
    (hw : w = backOf (View.ld X (Rect.unit (s := S256x5120) o S32x128.size inb'))) (x : S32x128.Idx) :
    w x = backAt X ((Rect.unit (s := S256x5120) o ![32, 128] inb').emb x) := by
  have hg : g < 40 := by
    have := inb' 1; rw [ho] at this; change 128 * g + 128 ≤ 5120 at this; omega
  rw [hw, ld_grp X r g hr hg o ho]
  subst ho
  refine (backAt_eq X r g hr hg _ x ?_ ?_).symm
  · show 32 * r + 1 * (x 0).val = _; omega
  · show 128 * g + 1 * (x 1).val = _; omega

variable (𝒱 : Variants) (c : Dev nD) (bd : Option 𝒱.V) (i : grid0.Coords) (arg1 : Memref sig .tc .vmem S256x5120 .bf16) (harg1 : arg1.IsWhole) (arg2 : Memref sig .tc .vmem S256x5120 .bf16) (harg2 : arg2.IsWhole) (arg3 : Memref sig .tc .vmem S256x5120 .fp8e4m3) (harg3 : arg3.IsWhole) (arg4 : Memref sig .tc .vmem S256x40 .f32) (harg4 : arg4.IsWhole) (X_arg1 : BufTy.Contents (Elt F) arg1.view.ty) (k : Fin k0_t1_loop.trips)

/-- A column offset of a group is 128 times the group's number. -/
theorem off_div (n r : ℕ) (h : n = 128 * (n / 128)) : (![r, n] : Fin 2 → ℕ) = ![r, 128 * (n / 128)] := by
  rw [← h]

/-- A trip's stores to the scales agree with the block's scales. -/
theorem trip_scale :
    ∀ pc ∈ (tripL_k0_t1 (F := F) 𝒱 c bd i arg1 harg1 arg2 harg2 arg3 harg3 arg4 harg4 X_arg1 k).2.2,
      ∀ x, pc.2 x = scaleAt (arg1.view.read (Elt F) X_arg1) (pc.1.emb x) := by
  have hk : k.val < 8 := Nat.lt_of_lt_of_le k.isLt k0_t1_abs.2.1
  delta tripL_k0_t1
  unfold trip_k0_t1
  dsimp only
  repeat' refine List.forall_mem_cons.2 ⟨?_, ?_⟩
  any_goals exact fun _ h => nomatch h
  all_goals refine fun x => piece_scale _ k.val _ hk _ _ _ ?_ (ClosedOff.eq) _ rfl (ClosedOff.eq) x
  all_goals exact scale_inb k.val _ hk (by decide) _ (ClosedOff.eq)

/-- A trip's stores to the codes agree with the block's codes. -/
theorem trip_code :
    ∀ pc ∈ (tripL_k0_t1 (F := F) 𝒱 c bd i arg1 harg1 arg2 harg2 arg3 harg3 arg4 harg4 X_arg1 k).2.1,
      ∀ x, pc.2 x = codeAt (arg1.view.read (Elt F) X_arg1) (pc.1.emb x) := by
  have hk : k.val < 8 := Nat.lt_of_lt_of_le k.isLt k0_t1_abs.2.1
  delta tripL_k0_t1
  unfold trip_k0_t1
  dsimp only
  repeat' refine List.forall_mem_cons.2 ⟨?_, ?_⟩
  any_goals exact fun _ h => nomatch h
  all_goals exact fun x => piece_code _ k.val _ hk _ _ _ ((ClosedOff.eq).trans (off_div _ _ rfl)) rfl x

/-- A trip's stores of the values read back agree with the block's. -/
theorem trip_back :
    ∀ pc ∈ (tripL_k0_t1 (F := F) 𝒱 c bd i arg1 harg1 arg2 harg2 arg3 harg3 arg4 harg4 X_arg1 k).1,
      ∀ x, pc.2 x = backAt (arg1.view.read (Elt F) X_arg1) (pc.1.emb x) := by
  have hk : k.val < 8 := Nat.lt_of_lt_of_le k.isLt k0_t1_abs.2.1
  delta tripL_k0_t1
  unfold trip_k0_t1
  dsimp only
  repeat' refine List.forall_mem_cons.2 ⟨?_, ?_⟩
  any_goals exact fun _ h => nomatch h
  all_goals exact fun x => piece_back _ k.val _ hk _ _ _ ((ClosedOff.eq).trans (off_div _ _ rfl)) rfl x

end Cert.KernelIdeal.Block
end
-- ==== Proof.Block.lean ====
module

public import proofs.«01_k».proof.Proof.Pieces

@[expose] public section
set_option maxRecDepth 16384
noncomputable section
namespace Cert.KernelIdeal.Block
open Idealize.ShloMosaic Idealize.ShloMosaic.TcCoe Idealize.ShloMosaic.Tactic
open Idealize.SL Idealize.SL.Sem Cert.KernelIdeal.Gen
variable {F : FTy → Type} [FloatOps F] [Named F]

section pb
variable (𝒱 : Variants) (c : Dev nD) (bd : Option 𝒱.V) (i : grid0.Coords) (arg1 : Memref sig .tc .vmem S256x5120 .bf16) (harg1 : arg1.IsWhole) (arg2 : Memref sig .tc .vmem S256x5120 .bf16) (harg2 : arg2.IsWhole) (arg3 : Memref sig .tc .vmem S256x5120 .fp8e4m3) (harg3 : arg3.IsWhole) (arg4 : Memref sig .tc .vmem S256x40 .f32) (harg4 : arg4.IsWhole) (X_arg1 : BufTy.Contents (Elt F) arg1.view.ty)

/-- The stores of the trips before `n` agree with the block's three results. -/
theorem pb_all (n : ℕ) :
    (∀ pc ∈ (pb_k0_t1 (F := F) 𝒱 c bd i arg1 harg1 arg2 harg2 arg3 harg3 arg4 harg4 X_arg1 n).1,
      ∀ x, pc.2 x = backAt (arg1.view.read (Elt F) X_arg1) (pc.1.emb x))
    ∧ (∀ pc ∈ (pb_k0_t1 (F := F) 𝒱 c bd i arg1 harg1 arg2 harg2 arg3 harg3 arg4 harg4 X_arg1 n).2.1,
      ∀ x, pc.2 x = codeAt (arg1.view.read (Elt F) X_arg1) (pc.1.emb x))
    ∧ (∀ pc ∈ (pb_k0_t1 (F := F) 𝒱 c bd i arg1 harg1 arg2 harg2 arg3 harg3 arg4 harg4 X_arg1 n).2.2,
      ∀ x, pc.2 x = scaleAt (arg1.view.read (Elt F) X_arg1) (pc.1.emb x)) := by
  induction n with
  | zero => exact ⟨fun _ h => (nomatch h), fun _ h => (nomatch h), fun _ h => (nomatch h)⟩
  | succ n ih =>
    rw [pb_k0_t1.eq_2]
    unfold pb_k0_t1Step
    split
    · rename_i h
      refine ⟨fun pc hpc => ?_, fun pc hpc => ?_, fun pc hpc => ?_⟩
      · rcases List.mem_append.mp hpc with h1 | h1
        · exact trip_back 𝒱 c bd i arg1 harg1 arg2 harg2 arg3 harg3 arg4 harg4 X_arg1 ⟨n, h⟩ pc h1
        · exact ih.1 pc h1
      · rcases List.mem_append.mp hpc with h1 | h1
        · exact trip_code 𝒱 c bd i arg1 harg1 arg2 harg2 arg3 harg3 arg4 harg4 X_arg1 ⟨n, h⟩ pc h1
        · exact ih.2.1 pc h1
      · rcases List.mem_append.mp hpc with h1 | h1
        · exact trip_scale 𝒱 c bd i arg1 harg1 arg2 harg2 arg3 harg3 arg4 harg4 X_arg1 ⟨n, h⟩ pc h1
        · exact ih.2.2 pc h1
    · exact ih
end pb

variable (c : Dev nD) (i : grid0.Coords) (arg1 : Memref sig .tc .vmem S256x5120 .bf16) (harg1 : arg1.IsWhole) (arg2 : Memref sig .tc .vmem S256x5120 .bf16) (harg2 : arg2.IsWhole) (arg3 : Memref sig .tc .vmem S256x5120 .fp8e4m3) (harg3 : arg3.IsWhole) (arg4 : Memref sig .tc .vmem S256x40 .f32) (harg4 : arg4.IsWhole)
    (x0 : Vec F S256x5120 .bf16)

/-- What a grid point leaves in the first result's block. -/
theorem out_back : out0_A_1 c i arg1 harg1 arg2 harg2 arg3 harg3 arg4 harg4 x0 = backAt x0 := by
  funext y
  unfold out0_A_1
  rw [View.read_writes_eq_canon _ _ _ (cover0_A_1 c i arg1 harg1 arg2 harg2 arg3 harg3 arg4 harg4 x0)]
  refine View.canon_apply_of_pieces (backAt x0) _ ?_ y (cover0_A_1 c i arg1 harg1 arg2 harg2 arg3 harg3 arg4 harg4 x0 y)
  have h := (pb_all (F := F) Variants.none c none i arg1 harg1 arg2 harg2 arg3 harg3 arg4 harg4 (harg1.unread x0) k0_t1_loop.trips).1
  rw [harg1.read_unread] at h
  exact h

/-- What a grid point leaves in the second result's block. -/
theorem out_code : out0_A_2 c i arg1 harg1 arg2 harg2 arg3 harg3 arg4 harg4 x0 = codeAt x0 := by
  funext y
  unfold out0_A_2
  rw [View.read_writes_eq_canon _ _ _ (cover0_A_2 c i arg1 harg1 arg2 harg2 arg3 harg3 arg4 harg4 x0)]
  refine View.canon_apply_of_pieces (codeAt x0) _ ?_ y (cover0_A_2 c i arg1 harg1 arg2 harg2 arg3 harg3 arg4 harg4 x0 y)
  have h := (pb_all (F := F) Variants.none c none i arg1 harg1 arg2 harg2 arg3 harg3 arg4 harg4 (harg1.unread x0) k0_t1_loop.trips).2.1
  rw [harg1.read_unread] at h
  exact h

/-- What a grid point leaves in the third result's block. -/
theorem out_scale : out0_A_3 c i arg1 harg1 arg2 harg2 arg3 harg3 arg4 harg4 x0 = scaleAt x0 := by
  funext y
  unfold out0_A_3
  rw [View.read_writes_eq_canon _ _ _ (cover0_A_3 c i arg1 harg1 arg2 harg2 arg3 harg3 arg4 harg4 x0)]
  refine View.canon_apply_of_pieces (scaleAt x0) _ ?_ y (cover0_A_3 c i arg1 harg1 arg2 harg2 arg3 harg3 arg4 harg4 x0 y)
  have h := (pb_all (F := F) Variants.none c none i arg1 harg1 arg2 harg2 arg3 harg3 arg4 harg4 (harg1.unread x0) k0_t1_loop.trips).2.2
  rw [harg1.read_unread] at h
  exact h

end Cert.KernelIdeal.Block
end
-- ==== Proof.Spec.lean ====
/- What a group of 128 entries comes to, by the kernel's arithmetic and by the reference's, over the extended reals. -/
module

public import Idealize.ShloMosaic.PureOps
public import Idealize.ShloMosaic.PureOps.Ideal

@[expose] public section
noncomputable section
namespace Cert.Spec
open Idealize.ShloMosaic

/-- The constant of the tanh form of GELU, the root of two over pi. -/
def C : ℝ := Real.sqrt (2 * Real.pi⁻¹)
/-- The factor of the cube in the tanh form of GELU. -/
def A : ℝ := 8943 / 200000

/-- GELU as the kernel computes it. -/
def kval (x : EReal) : EReal := x * Ideal.logistic (x * (((2 * C * A : ℝ) : EReal) * (x * x) + ((2 * C : ℝ) : EReal)))
/-- GELU as the reference computes it. -/
def rval (x : EReal) : EReal :=
  Ideal.ofBits .f32 0x3F000000#32 * x * (1 + Ideal.tanh ((C : EReal) * (x + (A : EReal) * x * x * x)))

/-- The greatest magnitude of a group's values under `f`. -/
def big (f : EReal → EReal) (g : Fin 128 → EReal) : EReal :=
  Finset.fold max (Ideal.ofBits .f32 0xFF800000#32) (fun k => max (f (g k)) (-f (g k))) Finset.univ

/-- The floor of the base-two logarithm of a group's greatest magnitude over 448. -/
def lg (a : EReal) : EReal :=
  Ideal.liftRound Int.floor
    (Ideal.div (Ideal.log (a * Ideal.ofBits .f32 0x3B124925#32)) (Ideal.log (Ideal.ofBits .f32 0x40000000#32)))

/-- The scale's bit pattern as the kernel builds it. -/
def kbits (a : EReal) : BitVec 32 :=
  if a = 0 then 1065353216#32
  else IntOp.subi (IntOp.shli ArithUnit.vector (IntOp.addi (Ideal.fptosi 32 (lg a)) 136#32) 23#32) 67108864#32
/-- The scale's exponent as the reference computes it. -/
def rexp (a : EReal) : EReal := if a = 0 then 0 else lg a + 1

/-- A value times the inverse scale, clipped to what the eight-bit format holds. -/
def clip (v s : EReal) : EReal :=
  min (Ideal.ofBits .f32 0x43E00000#32) (max (Ideal.ofBits .f32 0xC3E00000#32) (v * s))

/-- The kernel's scale of a group. -/
def kscale (g : Fin 128 → EReal) : EReal := Ideal.ofBits .f32 (kbits (big kval g))
/-- The kernel's code of a group's entry. -/
def kcode (g : Fin 128 → EReal) (k : Fin 128) : EReal :=
  clip (kval (g k)) (Ideal.ofBits .f32 (IntOp.subi 2130706432#32 (kbits (big kval g))))
/-- The reference's scale of a group. -/
def rscale (g : Fin 128 → EReal) : EReal := Ideal.exp2 (rexp (big rval g))
/-- The reference's code of a group's entry. -/
def rcode (g : Fin 128 → EReal) (k : Fin 128) : EReal := clip (rval (g k)) (Ideal.exp2 (0 - rexp (big rval g)))

/-- A group the claim speaks of: all zero, or with an entry no less than -4 and no smaller than 2 to the -90, and none
    larger than 2 to the 127. -/
def InRange (g : Fin 128 → EReal) : Prop :=
  (∀ k, g k = 0) ∨
    ((∃ k, ((-4 : ℝ) : EReal) ≤ g k ∧ (((2 : ℝ) ^ (-90 : ℤ) : ℝ) : EReal) ≤ max (g k) (-g k)) ∧
      ∀ k, max (g k) (-g k) ≤ (((2 : ℝ) ^ (127 : ℤ) : ℝ) : EReal))

end Cert.Spec
end
-- ==== Proof.KernelRead.lean ====
/- What the kernel's body computes of a group, read entry by entry over the extended reals. -/
module

public import proofs.«01_k».proof.Proof.Pieces
public import proofs.«01_k».proof.Proof.Spec
public import Idealize.ShloMosaic.Lib.Pointwise

@[expose] public section
set_option maxRecDepth 16384
noncomputable section
namespace Cert.KernelIdeal.Block
open Idealize.ShloMosaic Cert.KernelIdeal.Gen Cert.Spec

/-- The kernel's factor of the square. -/
theorem k3_eq : Named.named (F := Ideal) κ "k3" (φ := .f32) 0x3D922279#32 = ((2 * C * A : ℝ) : EReal) :=
  IdealRules.named_const.ideal_named_scalar _ _ _ _ rfl
/-- The kernel's constant term. -/
theorem k1_eq : Named.named (F := Ideal) κ "k1" (φ := .f32) 0x3FCC422A#32 = ((2 * C : ℝ) : EReal) :=
  IdealRules.named_const.ideal_named_scalar _ _ _ _ rfl

/-- The values of a group. -/
theorem val_read (v : Vec Ideal S32x128 .bf16) (r : Fin 32) (l : Fin 128) : k0_pay2 v (ix2 r l) = kval (v (ix2 r l)) := by
  pointwise [k0_pay2]
  rw [k3_eq, k1_eq]
  rfl

/-- The bit pattern of a row's scale. -/
theorem bits_read (v : Vec Ideal S32x128 .bf16) (r : Fin 32) (l : Fin 1) :
    k0_pay3 v (ix2 r l) = kbits (big kval fun k => v (ix2 r k)) := by
  pointwise [k0_pay3]
  simp only [val_read]
  rfl

/-- A row's scale. -/
theorem scale_read (v : Vec Ideal S32x128 .bf16) (r : Fin 32) (l : Fin 1) :
    scaleOf v (ix2 r l) = kscale fun k => v (ix2 r k) := by
  pointwise [scaleOf, k0_pay4]
  rw [bits_read]
  rfl

/-- A row's codes. -/
theorem code_read (v : Vec Ideal S32x128 .bf16) (r : Fin 32) (l : Fin 128) :
    codeOf v (ix2 r l) = kcode (fun k => v (ix2 r k)) l := by
  pointwise [codeOf, k0_pay5, k0_pay6, k0_pay7]
  rw [bits_read, val_read]
  rfl

/-- A row's values read back. -/
theorem back_read (v : Vec Ideal S32x128 .bf16) (r : Fin 32) (l : Fin 128) :
    backOf v (ix2 r l) = kcode (fun k => v (ix2 r k)) l * kscale fun k => v (ix2 r k) := by
  pointwise [backOf, k0_pay4, k0_pay5, k0_pay6, k0_pay7, k0_pay8]
  rw [bits_read, val_read]
  rfl

end Cert.KernelIdeal.Block
end
-- ==== Proof.KernelArray.lean ====
/- The kernel's three result arrays after the run, entry by entry. -/
module

public import proofs.«01_k».proof.Proof.Block
public import proofs.«01_k».proof.Proof.KernelRead
public import Idealize.ShloMosaic.Lib.Pipeline.ValueKit

@[expose] public section
set_option maxRecDepth 16384
noncomputable section
namespace Cert.KernelIdeal.Array
open Idealize.ShloMosaic Idealize.ShloMosaic.TcCoe Idealize.ShloMosaic.Tactic
open Cert.KernelIdeal.Gen Cert.KernelIdeal.Block Cert.Spec
variable (m : (ℓ : Loc nD τ sig) → Buf (Elt Ideal) ℓ) (c : Dev nD)

/-- Group `g` of row `n` of a whole array. -/
def grpOf (X : Vec Ideal S26624x5120 .bf16) (n : Fin 26624) (g : Fin 40) : Fin 128 → EReal :=
  fun k => X (ix2 n ⟨g.val * 128 + k.val, by omega⟩)

/-- The scales of a whole array. -/
def scales (X : Vec Ideal S26624x5120 .bf16) : Vec Ideal S26624x40 .f32 :=
  fun y => kscale (grpOf X (y 0) (y 1))
/-- The group an entry of a whole array lies in. -/
def grpAt (X : Vec Ideal S26624x5120 .bf16) (y : S26624x5120.Idx) : Fin 128 → EReal :=
  have h : (y 1).val < 5120 := (y 1).isLt
  grpOf X (y 0) ⟨(y 1).val / 128, by omega⟩
/-- The codes of a whole array. -/
def codes (X : Vec Ideal S26624x5120 .bf16) : Vec Ideal S26624x5120 .fp8e4m3 :=
  fun y => kcode (grpAt X y) ⟨(y 1).val % 128, Nat.mod_lt _ (by norm_num)⟩
/-- The values of a whole array read back from its codes. -/
def backs (X : Vec Ideal S26624x5120 .bf16) : Vec Ideal S26624x5120 .bf16 :=
  fun y => kcode (grpAt X y) ⟨(y 1).val % 128, Nat.mod_lt _ (by norm_num)⟩ * kscale (grpAt X y)

/-- Where each window's block lies: row block `t`. -/
theorem idx0 : ∀ t : Fin cfg0.N, win0_0.index t = ![(grid0.coords t 0).val, 0] :=
  (by decide +kernel : ∀ t : Fin grid0.N, _)
/-- The first result's block. -/
theorem idx1 : ∀ t : Fin cfg0.N, win0_1.index t = ![(grid0.coords t 0).val, 0] :=
  (by decide +kernel : ∀ t : Fin grid0.N, _)
/-- The second result's block. -/
theorem idx2 : ∀ t : Fin cfg0.N, win0_2.index t = ![(grid0.coords t 0).val, 0] :=
  (by decide +kernel : ∀ t : Fin grid0.N, _)
/-- The third result's block. -/
theorem idx3 : ∀ t : Fin cfg0.N, win0_3.index t = ![(grid0.coords t 0).val, 0] :=
  (by decide +kernel : ∀ t : Fin grid0.N, _)

/-- The array the kernel reads. -/
def arr : Vec Ideal S26624x5120 .bf16 := V m c main_v0

/-- A group of a block is a group of the whole array. -/
theorem grp_block (t : Fin cfg0.N) (r g : ℕ) (hr : r < 8) (hg : g < 40) (z : Fin 32) (n : Fin 26624)
    (hn : n.val = (grid0.coords t 0).val * 256 + (32 * r + z.val)) :
    (fun k => grp (iblk m c 0 t) r g hr hg (ix2 z k)) = grpOf (arr m c) n ⟨g, hg⟩ := by
  funext k
  unfold grp grpOf arr
  blk_ext [iblk, idx0 t]

/-- Scales of a block are scales of the whole array. -/
theorem scale_block (t : Fin cfg0.N) (y : S256x40.Idx) (Y : S26624x40.Idx)
    (h0 : (Y 0).val = (grid0.coords t 0).val * 256 + (y 0).val) (h1 : (Y 1).val = (y 1).val) :
    scaleAt (iblk m c 0 t) y = scales (arr m c) Y := by
  have hy : (y 0).val < 256 := (y 0).isLt
  rw [scaleAt_eq (iblk m c 0 t) ((y 0).val / 32) (y 1).val (by omega) (y 1).isLt y
    (ix2 ⟨(y 0).val % 32, Nat.mod_lt _ (by norm_num)⟩ 0)
    (by show _ = _ + (y 0).val % 32; omega) rfl, scale_read,
    grp_block m c t ((y 0).val / 32) (y 1).val (by omega) (y 1).isLt ⟨(y 0).val % 32, Nat.mod_lt _ (by norm_num)⟩ (Y 0)
      (by rw [h0]; show _ = _ + (_ + (y 0).val % 32); omega)]
  unfold scales
  congr 2
  exact Fin.ext h1.symm

/-- The third result. -/
theorem scale_arr : (dats m 0 c).arrAt 3 cfg0.N = scales (arr m c) := by
  refine (dats m 0 c).arrAt_eq_of_covers 3 _ (by decide +kernel) fun t hf y => ?_
  blk_simp
  rw [after0_3]
  unfold outsAt0
  dsimp only
  rw [out_scale]
  refine scale_block m c t y _ ?_ ?_ <;> blk_simp [idx3 t] <;> simp

/-- An entry of a block, as an entry of the group it lies in. -/
theorem grp_entry (t : Fin cfg0.N) (y : S256x5120.Idx) (Y : S26624x5120.Idx)
    (h0 : (Y 0).val = (grid0.coords t 0).val * 256 + (y 0).val) (h1 : (Y 1).val = (y 1).val) (hr : (y 0).val / 32 < 8)
    (hg : (y 1).val / 128 < 40) (z : Fin 32) (hz : z.val = (y 0).val % 32) :
    (fun k => grp (iblk m c 0 t) ((y 0).val / 32) ((y 1).val / 128) hr hg (ix2 z k)) = grpAt (arr m c) Y := by
  rw [grp_block m c t _ _ hr hg z (Y 0) (by omega)]
  unfold grpAt
  congr 2
  rw [h1]

/-- Codes of a block are codes of the whole array. -/
theorem code_block (t : Fin cfg0.N) (y : S256x5120.Idx) (Y : S26624x5120.Idx)
    (h0 : (Y 0).val = (grid0.coords t 0).val * 256 + (y 0).val) (h1 : (Y 1).val = (y 1).val) :
    codeAt (iblk m c 0 t) y = codes (arr m c) Y := by
  have hy : (y 0).val < 256 := (y 0).isLt
  have hy1 : (y 1).val < 5120 := (y 1).isLt
  rw [codeAt_eq (iblk m c 0 t) ((y 0).val / 32) ((y 1).val / 128) (by omega) (by omega) y
    (ix2 ⟨(y 0).val % 32, Nat.mod_lt _ (by norm_num)⟩ ⟨(y 1).val % 128, Nat.mod_lt _ (by norm_num)⟩)
    (by show _ = _ + (y 0).val % 32; omega) (by show _ = _ + (y 1).val % 128; omega), code_read,
    grp_entry m c t y Y h0 h1 _ _ _ rfl]
  unfold codes
  congr 2
  rw [h1]

/-- Values read back of a block are values read back of the whole array. -/
theorem back_block (t : Fin cfg0.N) (y : S256x5120.Idx) (Y : S26624x5120.Idx)
    (h0 : (Y 0).val = (grid0.coords t 0).val * 256 + (y 0).val) (h1 : (Y 1).val = (y 1).val) :
    backAt (iblk m c 0 t) y = backs (arr m c) Y := by
  have hy : (y 0).val < 256 := (y 0).isLt
  have hy1 : (y 1).val < 5120 := (y 1).isLt
  rw [backAt_eq (iblk m c 0 t) ((y 0).val / 32) ((y 1).val / 128) (by omega) (by omega) y
    (ix2 ⟨(y 0).val % 32, Nat.mod_lt _ (by norm_num)⟩ ⟨(y 1).val % 128, Nat.mod_lt _ (by norm_num)⟩)
    (by show _ = _ + (y 0).val % 32; omega) (by show _ = _ + (y 1).val % 128; omega), back_read,
    grp_entry m c t y Y h0 h1 _ _ _ rfl]
  unfold backs
  congr 3
  rw [h1]

/-- The second result. -/
theorem code_arr : (dats m 0 c).arrAt 2 cfg0.N = codes (arr m c) := by
  refine (dats m 0 c).arrAt_eq_of_covers 2 _ (by decide +kernel) fun t hf y => ?_
  blk_simp
  rw [after0_2]
  unfold outsAt0
  dsimp only
  rw [out_code]
  refine code_block m c t y _ ?_ ?_ <;> blk_simp [idx2 t] <;> simp

/-- The first result. -/
theorem back_arr : (dats m 0 c).arrAt 1 cfg0.N = backs (arr m c) := by
  refine (dats m 0 c).arrAt_eq_of_covers 1 _ (by decide +kernel) fun t hf y => ?_
  blk_simp
  rw [after0_1]
  unfold outsAt0
  dsimp only
  rw [out_back]
  refine back_block m c t y _ ?_ ?_ <;> blk_simp [idx1 t] <;> simp

end Cert.KernelIdeal.Array
end
-- ==== Proof.ReferenceRead.lean ====
/- What the reference's body computes, read entry by entry over the extended reals. -/
module

public import proofs.«01_k».proof.Proof.Gen.ReferenceIdeal.Frame
public import proofs.«01_k».proof.Proof.Spec
public import Idealize.ShloMosaic.Lib.Pointwise

@[expose] public section
set_option maxRecDepth 16384
noncomputable section
namespace Cert.ReferenceIdeal.Read
open Idealize.ShloMosaic Cert.ReferenceIdeal.Gen Cert.Spec

/-- The reference's outer constant. -/
theorem gelu_c_eq : Named.named (F := Ideal) κ "gelu_c" (φ := .f32) 0x3F4C422A#32 = (C : EReal) :=
  IdealRules.named_const.ideal_named_scalar _ _ _ _ rfl
/-- The reference's factor of the cube. -/
theorem gelu_a_eq : Named.named (F := Ideal) κ "gelu_a" (φ := .f32) 0x3D372713#32 = (A : EReal) :=
  IdealRules.named_const.ideal_named_scalar _ _ _ _ rfl

/-- Group `g` of row `n` of a whole array. -/
def grp (X : Vec Ideal S26624x5120 .bf16) (n : Fin 26624) (g : Fin 40) : Fin 128 → EReal :=
  fun k => X (ix2 n ⟨g.val * 128 + k.val, by omega⟩)

/-- The values. -/
theorem val_read (X : Vec Ideal S26624x5120 .bf16) (n : Fin 26624) (j : Fin 5120) : k0_pay3 X (ix2 n j) = rval (X (ix2 n j)) := by
  pointwise [k0_pay3]
  rw [gelu_c_eq, gelu_a_eq]
  rfl

/-- The greatest magnitude of each group of an array. -/
def tops (v : FVec Ideal S26624x5120 .f32) : FVec Ideal S26624x40 .f32 :=
  multiReduction .maximumf [2] S26624x40 (shapeCast S26624x40x128 (absf v) shapeCasts_S26624x5120_S26624x40x128) 0xFF800000#32
    reduces_S26624x40x128_S26624x40 (.inl rfl) rfl

/-- A group's greatest magnitude is the greatest over its 128 entries. -/
theorem tops_read (v : FVec Ideal S26624x5120 .f32) (n : Fin 26624) (g : Fin 40) :
    tops v (ix2 n g) = Finset.fold max (Ideal.ofBits .f32 0xFF800000#32)
      (fun k : Fin 128 => FloatOps.absf (v (ix2 n ⟨g.val * 128 + k.val, by omega⟩))) Finset.univ := by
  pointwise [tops]

/-- The base-two exponents of magnitudes. -/
def exps (a : FVec Ideal S26624x40 .f32) : FVec Ideal S26624x40 .f32 :=
  addf (floor (divf (log (mulf a (broadcast S26624x40 (Scalar.ofBits .f32 0x3B124925#32))))
    (log (broadcast S26624x40 (Scalar.ofBits .f32 0x40000000#32))))) (broadcast S26624x40 (Scalar.ofBits .f32 0x3F800000#32))

/-- An exponent is one more than the floor of the logarithm. -/
theorem exps_read (a : FVec Ideal S26624x40 .f32) (n : Fin 26624) (g : Fin 40) : exps a (ix2 n g) = lg (a (ix2 n g)) + 1 := by
  pointwise [exps]
  rfl

/-- The exponents, zero where the magnitude is zero. -/
def expsOr (a e : FVec Ideal S26624x40 .f32) : FVec Ideal S26624x40 .f32 :=
  select (cmpf .oeq a (broadcast S26624x40 (Scalar.ofBits .f32 0x00000000#32)))
    (broadcast S26624x40 (Scalar.ofBits .f32 0x00000000#32)) e

/-- An exponent is zero where the magnitude is zero. -/
theorem expsOr_read (a e : FVec Ideal S26624x40 .f32) (n : Fin 26624) (g : Fin 40) :
    expsOr a e (ix2 n g) = if a (ix2 n g) = 0 then 0 else e (ix2 n g) := by
  pointwise [expsOr]

/-- The exponent of a group's scale. -/
theorem exp_read (X : Vec Ideal S26624x5120 .bf16) (n : Fin 26624) (g : Fin 40) :
    k0_pay4 X (ix2 n g) = rexp (big rval (grp X n g)) := by
  have h : k0_pay4 X = expsOr (tops (k0_pay3 X)) (exps (tops (k0_pay3 X))) := rfl
  rw [h, expsOr_read, exps_read, tops_read]
  simp only [val_read]
  rfl

/-- Powers of two, entry by entry. -/
theorem exp2_read (a : FVec Ideal S26624x40 .f32) (n : Fin 26624) (g : Fin 40) : exp2 a (ix2 n g) = Ideal.exp2 (a (ix2 n g)) := by
  pointwise []
  rfl

/-- A group's scale. -/
theorem scale_read (X : Vec Ideal S26624x5120 .bf16) (n : Fin 26624) (g : Fin 40) : k0_pay5 X (ix2 n g) = rscale (grp X n g) := by
  have h : k0_pay5 X = exp2 (k0_pay4 X) := rfl
  rw [h, exp2_read, exp_read]
  rfl

/-- Per-group numbers repeated along their groups. -/
def spread {φ : FTy} (s : FVec Ideal S26624x40 φ) : FVec Ideal S26624x5120 φ :=
  shapeCast S26624x5120 (broadcastTo S26624x40x128 (shapeCast S26624x40x1 (shapeCast S26624x40x1 s shapeCasts_S26624x40_S26624x40x1)
    shapeCasts_S26624x40x1_S26624x40x1) broadcasts_S26624x40x1_S26624x40x128) shapeCasts_S26624x40x128_S26624x5120

/-- An entry of the repeated array is its group's number. -/
theorem spread_read {φ : FTy} (s : FVec Ideal S26624x40 φ) (n : Fin 26624) (j : Fin 5120) :
    spread s (ix2 n j) = s (ix2 n ⟨j.val / 128, by omega⟩) := by
  pointwise [spread]

/-- Values times inverse scales, clipped. -/
def clipped (v s : FVec Ideal S26624x5120 .f32) : FVec Ideal S26624x5120 .f32 :=
  minimumf (broadcast S26624x5120 (Scalar.ofBits .f32 0x43E00000#32))
    (maximumf (broadcast S26624x5120 (Scalar.ofBits .f32 0xC3E00000#32)) (mulf v s))

/-- An entry of the clipped product. -/
theorem clipped_read (v s : FVec Ideal S26624x5120 .f32) (n : Fin 26624) (j : Fin 5120) :
    clipped v s (ix2 n j) = clip (v (ix2 n j)) (s (ix2 n j)) := by
  pointwise [clipped]
  rfl

/-- The inverse scales. -/
def invs (e : FVec Ideal S26624x40 .f32) : FVec Ideal S26624x40 .f32 :=
  exp2 (subf (broadcast S26624x40 (Scalar.ofBits .f32 0x00000000#32)) e)

/-- An inverse scale. -/
theorem invs_read (e : FVec Ideal S26624x40 .f32) (n : Fin 26624) (g : Fin 40) :
    invs e (ix2 n g) = Ideal.exp2 (0 - e (ix2 n g)) := by
  unfold invs
  rw [exp2_read]
  congr 1
  pointwise []

/-- An entry is its own place in its own group. -/
theorem grp_self (X : Vec Ideal S26624x5120 .bf16) (n : Fin 26624) (j : Fin 5120) :
    grp X n ⟨j.val / 128, by omega⟩ ⟨j.val % 128, Nat.mod_lt _ (by norm_num)⟩ = X (ix2 n j) := by
  unfold grp
  congr 2
  apply Fin.ext
  show j.val / 128 * 128 + j.val % 128 = j.val
  omega

/-- A code before it is stored. -/
theorem clip_read (X : Vec Ideal S26624x5120 .bf16) (n : Fin 26624) (j : Fin 5120) :
    k0_pay6 X (ix2 n j) = rcode (grp X n ⟨j.val / 128, by omega⟩) ⟨j.val % 128, Nat.mod_lt _ (by norm_num)⟩ := by
  have h : k0_pay6 X = clipped (k0_pay3 X) (spread (invs (k0_pay4 X))) := rfl
  rw [h, clipped_read, spread_read, invs_read, exp_read, val_read]
  unfold rcode
  rw [grp_self]

/-- A code. -/
theorem code_read (X : Vec Ideal S26624x5120 .bf16) (n : Fin 26624) (j : Fin 5120) :
    k0_pay1 (k0_pay6 X) (ix2 n j)
      = rcode (grp X n ⟨j.val / 128, by omega⟩) ⟨j.val % 128, Nat.mod_lt _ (by norm_num)⟩ := by
  rw [← clip_read]
  rfl

/-- A value read back. -/
theorem back_read (X : Vec Ideal S26624x5120 .bf16) (n : Fin 26624) (j : Fin 5120) :
    k0_pay2 (k0_pay5 X) (k0_pay6 X) (ix2 n j)
      = rcode (grp X n ⟨j.val / 128, by omega⟩) ⟨j.val % 128, Nat.mod_lt _ (by norm_num)⟩
        * rscale (grp X n ⟨j.val / 128, by omega⟩) := by
  rw [← clip_read, ← scale_read]
  generalize k0_pay5 X = s
  generalize k0_pay6 X = v
  pointwise [k0_pay2, k0_pay1]

end Cert.ReferenceIdeal.Read
end
-- ==== Proof.ReferenceRun.lean ====
/- The reference's three result arrays after the run, entry by entry. -/
module

public import proofs.«01_k».proof.Proof.ReferenceRead
public import Idealize.ShloMosaic.Lib.Pipeline.Value
public import Idealize.ShloMosaic.Lib.Pipeline.ValueKit

@[expose] public section
set_option maxRecDepth 16384
noncomputable section
namespace Cert.ReferenceIdeal.Run
open Idealize.ShloMosaic Idealize.ShloMosaic.TcCoe Idealize.ShloMosaic.Tactic Idealize.SL.Sem
open Cert.ReferenceIdeal.Gen Cert.ReferenceIdeal.Read Cert.Spec
variable (m : (ℓ : Loc nD τ sig) → Buf (Elt Ideal) ℓ) (ρ : Dev nD → PrngReg)

/-- After the run the argument is as launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run, its three results named. -/
theorem run_arrays : θ_run defs (onTc (τ := τ) (main (F := Ideal))) ⟨m, fun _ => 0, ρ⟩ fun r => ∀ c : Dev nD,
      r.2.mem ((c : Thread nD τ).loc main_v1_0) = (dats m 0 c).arrAt 1 cfg0.N
      ∧ r.2.mem ((c : Thread nD τ).loc main_v1_1) = (dats m 0 c).arrAt 2 cfg0.N
      ∧ r.2.mem ((c : Thread nD τ).loc main_v1_2) = (dats m 0 c).arrAt 3 cfg0.N
      ∧ r.2.mem ((c : Thread nD τ).loc main_arg0) = m ((c : Thread nD τ).loc main_arg0) :=
  (θ_run defs _ _).mono (fun r h c => ⟨(h c).1 1, (h c).1 2, (h c).1 3, kept m r h c⟩) (run_main m ρ)

/-- The array the reference reads. -/
def arr (c : Dev nD) : Vec Ideal S26624x5120 .bf16 := V m c main_v0

/-- The one block the reference reads is the whole array. -/
theorem block_eq (c : Dev nD) (t : Fin cfg0.N) : iblk m c 0 t = arr m c := by
  funext y
  unfold arr
  have e : win0_0.index t = ![0, 0] := (by decide +kernel : ∀ t : Fin grid0.N, win0_0.index t = ![0, 0]) t
  blk_ext [iblk, e]

/-- The pieces of the body by the pieces read before. -/
theorem pay7_eq (X : Vec Ideal S26624x5120 .bf16) : k0_pay7 X = k0_pay5 X := by
  unfold k0_pay7
  rw [View.ld_unit_zero (by decide)]
/-- The clipped codes of the whole array. -/
theorem pay8_eq (X : Vec Ideal S26624x5120 .bf16) : k0_pay8 X = k0_pay6 X := by
  unfold k0_pay8
  rw [View.ld_unit_zero (by decide)]

/-- The third result. -/
theorem scale_arr (c : Dev nD) : (dats m 0 c).arrAt 3 cfg0.N = k0_pay5 (arr m c) := by
  refine (dats m 0 c).arrAt_eq_of_covers 3 _ (by decide +kernel) fun t hf y => ?_
  have e : win0_3.index t = ![0, 0] := (by decide +kernel : ∀ t : Fin grid0.N, win0_3.index t = ![0, 0]) t
  blk_simp
  rw [after0_3, block_eq]
  frame_out
  rw [pay7_eq]
  generalize k0_pay5 (arr m c) = Z
  blk_ext [e]

/-- The second result. -/
theorem code_arr (c : Dev nD) : (dats m 0 c).arrAt 2 cfg0.N = k0_pay1 (k0_pay6 (arr m c)) := by
  refine (dats m 0 c).arrAt_eq_of_covers 2 _ (by decide +kernel) fun t hf y => ?_
  have e : win0_2.index t = ![0, 0] := (by decide +kernel : ∀ t : Fin grid0.N, win0_2.index t = ![0, 0]) t
  blk_simp
  rw [after0_2, block_eq]
  frame_out
  rw [pay8_eq]
  generalize k0_pay1 (k0_pay6 (arr m c)) = Z
  blk_ext [e]

/-- The first result. -/
theorem back_arr (c : Dev nD) : (dats m 0 c).arrAt 1 cfg0.N = k0_pay2 (k0_pay5 (arr m c)) (k0_pay6 (arr m c)) := by
  refine (dats m 0 c).arrAt_eq_of_covers 1 _ (by decide +kernel) fun t hf y => ?_
  have e : win0_1.index t = ![0, 0] := (by decide +kernel : ∀ t : Fin grid0.N, win0_1.index t = ![0, 0]) t
  blk_simp
  rw [after0_1, block_eq]
  frame_out
  rw [pay7_eq, pay8_eq]
  generalize k0_pay2 (k0_pay5 (arr m c)) (k0_pay6 (arr m c)) = Z
  blk_ext [e]

end Cert.ReferenceIdeal.Run
end
-- ==== Proof.Entry.lean ====
/- The array both programs read: the argument with its leading axes merged, and its groups. -/
module

public import proofs.«01_k».proof.Proof.KernelArray
public import proofs.«01_k».proof.Proof.ReferenceRun

@[expose] public section
set_option maxRecDepth 16384
noncomputable section
namespace Cert.Entry
open Idealize.ShloMosaic Idealize.ShloMosaic.TcCoe Idealize.ShloMosaic.Tactic

/-- An entry of the array the kernel reads is an entry of the argument. -/
theorem kernel (m : (ℓ : Loc KernelIdeal.nD KernelIdeal.τ KernelIdeal.sig) → Buf (Elt Ideal) ℓ) (c : Dev KernelIdeal.nD)
    (n : Fin 26624) (j : Fin 5120) :
    KernelIdeal.Array.arr m c (ix2 n j)
      = (m ((c.tc : Thread KernelIdeal.nD KernelIdeal.τ).loc KernelIdeal.main_arg0) : Vec Ideal ⟨3, ![26, 1024, 5120]⟩ .bf16)
        (ix3 ⟨n.val / 1024, by omega⟩ ⟨n.val % 1024, by omega⟩ j) := by
  unfold KernelIdeal.Array.arr
  entry_read
  pointwise []

/-- An entry of the array the reference reads is an entry of the argument. -/
theorem reference (m : (ℓ : Loc ReferenceIdeal.nD ReferenceIdeal.τ ReferenceIdeal.sig) → Buf (Elt Ideal) ℓ) (c : Dev ReferenceIdeal.nD)
    (n : Fin 26624) (j : Fin 5120) :
    ReferenceIdeal.Run.arr m c (ix2 n j)
      = (m ((c.tc : Thread ReferenceIdeal.nD ReferenceIdeal.τ).loc ReferenceIdeal.main_arg0) : Vec Ideal ⟨3, ![26, 1024, 5120]⟩ .bf16)
        (ix3 ⟨n.val / 1024, by omega⟩ ⟨n.val % 1024, by omega⟩ j) := by
  unfold ReferenceIdeal.Run.arr
  entry_read
  pointwise []

end Cert.Entry
end
-- ==== Proof.Consts.lean ====
/- The values of the constants' bit patterns, and of a bit pattern that is an exponent field alone. -/
module

public import Idealize.ShloMosaic.PureOps.Ideal

@[expose] public section
noncomputable section
namespace Cert.Consts
open Idealize.ShloMosaic

/-- One half. -/
theorem half : Ideal.ofBits .f32 0x3F000000#32 = ((1 / 2 : ℝ) : EReal) := by
  simp [Ideal.ofBits, Ideal.ieee, -EReal.coe_mul]; norm_num
/-- Two. -/
theorem two : Ideal.ofBits .f32 0x40000000#32 = ((2 : ℝ) : EReal) := by
  simp [Ideal.ofBits, Ideal.ieee, -EReal.coe_mul]; norm_num
/-- Minus four. -/
theorem minus_four : Ideal.ofBits .f32 0xC0800000#32 = ((-4 : ℝ) : EReal) := by
  simp [Ideal.ofBits, Ideal.ieee, -EReal.coe_mul]; norm_num
/-- The constant nearest to one over 448. -/
theorem inv448 : Ideal.ofBits .f32 0x3B124925#32 = ((9586981 * (2 : ℝ) ^ (-32 : ℤ) : ℝ) : EReal) := by
  simp [Ideal.ofBits, Ideal.ieee, -EReal.coe_mul]
/-- Minus infinity. -/
theorem neg_inf : Ideal.ofBits .f32 0xFF800000#32 = ⊥ := by
  simp [Ideal.ofBits, Ideal.ieee]
/-- Two to the -90. -/
theorem small : Ideal.ofBits .f32 0x12800000#32 = (((2 : ℝ) ^ (-90 : ℤ) : ℝ) : EReal) := by
  simp [Ideal.ofBits, Ideal.ieee, -EReal.coe_mul]; norm_num
/-- Two to the 127. -/
theorem large : Ideal.ofBits .f32 0x7F000000#32 = (((2 : ℝ) ^ (127 : ℤ) : ℝ) : EReal) := by
  have e : (2 : ℝ) ^ (127 : ℤ) = 8388608 * 2 ^ (104 : ℤ) := by norm_num
  rw [e]
  simp [Ideal.ofBits, Ideal.ieee, -EReal.coe_mul]; try norm_num

/-- A pattern with sign bit zero, exponent field `n` and fraction zero is the power of two with exponent `n - 127`. -/
theorem ieee_of (b : BitVec 32) (n : ℕ) (h1 : 1 ≤ n) (h2 : n ≤ 254) (hs : b.extractLsb' 31 1 = 0#1)
    (he : (b.extractLsb' 23 8).toNat = n) (hf : (b.extractLsb' 0 23).toNat = 0) :
    Ideal.ieee 8 23 b = (((2 : ℝ) ^ ((n : ℤ) - 127) : ℝ) : EReal) := by
  unfold Ideal.ieee
  simp only [Nat.reduceAdd, hs, he, hf]
  have e : (2 : ℝ) ^ ((n : ℤ) - 127) = 2 ^ (23 : ℤ) * 2 ^ ((n : ℤ) - 127 - 23) := by
    rw [← zpow_add₀ (by norm_num)]; congr 1; ring
  rw [if_neg (by omega), if_neg (by omega), e]
  norm_num

/-- A 32-bit pattern is read with eight exponent bits and 23 fraction bits. -/
theorem ofBits_f32 (b : BitVec 32) : Ideal.ofBits .f32 b = Ideal.ieee 8 23 b := rfl

/-- The sign bit of an exponent field alone. -/
theorem field_sign (n : ℕ) (h : n ≤ 254) : (BitVec.ofNat 32 (n * 8388608)).extractLsb' 31 1 = 0#1 := by
  apply BitVec.eq_of_toNat_eq
  rw [BitVec.extractLsb'_toNat, BitVec.toNat_ofNat, Nat.shiftRight_eq_div_pow]; norm_num; omega
/-- The exponent bits of an exponent field alone. -/
theorem field_exponent (n : ℕ) (h : n ≤ 254) : ((BitVec.ofNat 32 (n * 8388608)).extractLsb' 23 8).toNat = n := by
  rw [BitVec.extractLsb'_toNat, BitVec.toNat_ofNat, Nat.shiftRight_eq_div_pow]; norm_num; omega
/-- The fraction bits of an exponent field alone. -/
theorem field_fraction (n : ℕ) : ((BitVec.ofNat 32 (n * 8388608)).extractLsb' 0 23).toNat = 0 := by
  rw [BitVec.extractLsb'_toNat, BitVec.toNat_ofNat, Nat.shiftRight_eq_div_pow]; norm_num

/-- A bit pattern that is the exponent field `n` alone is the power of two with exponent `n - 127`. -/
theorem field (n : ℕ) (h1 : 1 ≤ n) (h2 : n ≤ 254) :
    Ideal.ofBits .f32 (BitVec.ofNat 32 (n * 8388608)) = (((2 : ℝ) ^ ((n : ℤ) - 127) : ℝ) : EReal) := by
  rw [ofBits_f32]
  exact ieee_of _ n h1 h2 (field_sign n h2) (field_exponent n h2) (field_fraction n)

end Cert.Consts
end
-- ==== Proof.Gelu.lean ====
/- The two forms of GELU are one function of a real number, and how large it is. -/
module

public import proofs.«01_k».proof.Proof.Spec
public import proofs.«01_k».proof.Proof.Consts

@[expose] public section
noncomputable section
namespace Cert.Spec
open Idealize.ShloMosaic

/-- What is under the logistic function. -/
def arg (r : ℝ) : ℝ := r * (2 * C * A * (r * r) + 2 * C)
/-- GELU of a real number. -/
def gelu (r : ℝ) : ℝ := r * (1 + Real.exp (-arg r))⁻¹

/-- The kernel's GELU of a real number. -/
theorem kval_coe (r : ℝ) : kval r = (gelu r : EReal) := by
  have h : (r : EReal) * (((2 * C * A : ℝ) : EReal) * ((r : EReal) * r) + ((2 * C : ℝ) : EReal)) = (arg r : EReal) := by
    unfold arg; push_cast; rfl
  unfold kval gelu
  rw [h, Ideal.logistic_coe, EReal.coe_mul]

/-- The logistic function of twice a number is half of one more than the hyperbolic tangent. -/
theorem logistic_two_mul (y : ℝ) : (1 + Real.exp (-(2 * y)))⁻¹ = 1 / 2 * (1 + Real.tanh y) := by
  have h1 : Real.exp y * Real.exp (-y) = 1 := by rw [← Real.exp_add]; simp
  have h2 : Real.exp (-(2 * y)) = Real.exp (-y) * Real.exp (-y) := by rw [← Real.exp_add]; congr 1; ring
  have hp := Real.exp_pos y
  have hn := Real.exp_pos (-y)
  rw [Real.tanh_eq_sinh_div_cosh, Real.sinh_eq, Real.cosh_eq, h2]
  field_simp
  nlinarith

/-- The reference's GELU of a real number. -/
theorem rval_coe (r : ℝ) : rval r = (gelu r : EReal) := by
  have h : (C : EReal) * ((r : EReal) + (A : EReal) * r * r * r) = ((C * (r + A * r * r * r) : ℝ) : EReal) := by push_cast; rfl
  have e : arg r = 2 * (C * (r + A * r * r * r)) := by unfold arg; ring
  unfold rval gelu
  rw [h, Consts.half, Ideal.tanh_coe, e, logistic_two_mul]
  rw [show r * (1 / 2 * (1 + Real.tanh (C * (r + A * r * r * r)))) = 1 / 2 * r * (1 + Real.tanh (C * (r + A * r * r * r)))
    by ring]
  push_cast
  rfl

/-- The constant is between zero and one. -/
theorem C_bounds : 0 ≤ C ∧ C ≤ 1 := by
  refine ⟨Real.sqrt_nonneg _, ?_⟩
  unfold C
  rw [Real.sqrt_le_one, ← div_eq_mul_inv, div_le_one Real.pi_pos]
  exact Real.two_le_pi

/-- GELU is no larger than its argument. -/
theorem gelu_le (r : ℝ) : |gelu r| ≤ |r| := by
  unfold gelu
  have hp := Real.exp_pos (-arg r)
  rw [abs_mul, abs_of_pos (inv_pos.mpr (by linarith : 0 < 1 + Real.exp (-arg r)))]
  have : (1 + Real.exp (-arg r))⁻¹ ≤ 1 := inv_le_one_of_one_le₀ (by linarith)
  have := abs_nonneg r
  nlinarith

/-- From -4 on, what is under the logistic function is at least -14. -/
theorem arg_ge (r : ℝ) (h : -4 ≤ r) : -14 ≤ arg r := by
  obtain ⟨h0, h1⟩ := C_bounds
  have e : arg r = C * (2 * r * (A * (r * r) + 1)) := by unfold arg; ring
  rw [e]
  unfold A
  have hrr := mul_self_nonneg r
  have hq : 0 ≤ 8943 / 200000 * (r * r) + 1 := by linarith
  by_cases hr : 0 ≤ r
  · have : 0 ≤ C * (2 * r * (8943 / 200000 * (r * r) + 1)) := mul_nonneg h0 (mul_nonneg (by linarith) hq)
    linarith
  · have hr' : 0 ≤ -r := by linarith
    have h16 : r * r ≤ 16 := by nlinarith
    have a : -r * (8943 / 200000 * (r * r) + 1) ≤ 4 * (8943 / 200000 * 16 + 1) :=
      mul_le_mul (by linarith) (by linarith) hq (by norm_num)
    have b : C * (-r * (8943 / 200000 * (r * r) + 1)) ≤ 1 * (4 * (8943 / 200000 * 16 + 1)) :=
      mul_le_mul h1 a (mul_nonneg hr' hq) (by norm_num)
    have : C * (2 * r * (8943 / 200000 * (r * r) + 1)) = -2 * (C * (-r * (8943 / 200000 * (r * r) + 1))) := by ring
    rw [this]
    linarith

/-- From -4 on, GELU is at least its argument over two to the 24. -/
theorem gelu_ge (r : ℝ) (h : -4 ≤ r) : |r| * (2 : ℝ) ^ (-24 : ℤ) ≤ |gelu r| := by
  unfold gelu
  have hp := Real.exp_pos (-arg r)
  rw [abs_mul, abs_of_pos (inv_pos.mpr (by linarith : 0 < 1 + Real.exp (-arg r)))]
  refine mul_le_mul_of_nonneg_left ?_ (abs_nonneg r)
  have h8 : Real.exp (1 / 8) ≤ 8 / 7 := by
    have := Real.add_one_le_exp (-(1 / 8))
    rw [Real.exp_neg] at this
    have h := inv_anti₀ (by norm_num : (0 : ℝ) < -(1 / 8) + 1) this
    rw [inv_inv] at h
    exact h.trans (by norm_num)
  have h14 : Real.exp (-arg r) ≤ (8 / 7) ^ 112 := by
    calc Real.exp (-arg r) ≤ Real.exp ((112 : ℕ) * (1 / 8)) := Real.exp_le_exp.mpr (by norm_num; linarith [arg_ge r h])
      _ = Real.exp (1 / 8) ^ 112 := Real.exp_nat_mul _ _
      _ ≤ (8 / 7) ^ 112 := pow_le_pow_left₀ (Real.exp_pos _).le h8 112
  have hb : (8 / 7 : ℝ) ^ 112 ≤ 2 ^ 24 - 1 := by norm_num
  rw [show (2 : ℝ) ^ (-24 : ℤ) = (2 ^ 24)⁻¹ by norm_num]
  apply inv_anti₀ (by linarith)
  linarith

end Cert.Spec
end
-- ==== Proof.Scale.lean ====
/- The kernel's exponent field and the reference's power of two are one scale, for a group's greatest magnitude in range. -/
module

public import proofs.«01_k».proof.Proof.Gelu

@[expose] public section
noncomputable section
namespace Cert.Spec
open Idealize.ShloMosaic

/-- The floor of the base-two logarithm of a magnitude over 448, a real number's. -/
def lgZ (α : ℝ) : ℤ := ⌊Real.log (α * (9586981 * (2 : ℝ) ^ (-32 : ℤ))) / Real.log 2⌋

/-- A positive real magnitude's exponent is the integer one. -/
theorem lg_coe (α : ℝ) (h : 0 < α) : lg α = ((lgZ α : ℝ) : EReal) := by
  have h2 : Real.log 2 ≠ 0 := (Real.log_pos (by norm_num)).ne'
  have hp : 0 < α * (9586981 * (2 : ℝ) ^ (-32 : ℤ)) := by positivity
  unfold lg lgZ
  rw [Consts.inv448, Consts.two, ← EReal.coe_mul, Ideal.log_coe, if_neg (not_le.mpr hp), Ideal.log_coe,
    if_neg (by norm_num), Ideal.div_coe h2, ← EReal.coe_mul, Ideal.liftRound_coe, mul_one_div]

/-- A magnitude between two powers of two has its exponent between the powers' less nine. -/
theorem lgZ_bounds (α : ℝ) (h1 : (2 : ℝ) ^ (-114 : ℤ) ≤ α) (h2 : α ≤ (2 : ℝ) ^ (127 : ℤ)) :
    -123 ≤ lgZ α ∧ lgZ α ≤ 119 := by
  have l2 : 0 < Real.log 2 := Real.log_pos (by norm_num)
  have hc1 : (2 : ℝ) ^ (-9 : ℤ) ≤ 9586981 * (2 : ℝ) ^ (-32 : ℤ) := by norm_num
  have hc2 : 9586981 * (2 : ℝ) ^ (-32 : ℤ) ≤ (2 : ℝ) ^ (-8 : ℤ) := by norm_num
  have hα : 0 < α := lt_of_lt_of_le (by positivity) h1
  have b1 : (2 : ℝ) ^ (-123 : ℤ) ≤ α * (9586981 * (2 : ℝ) ^ (-32 : ℤ)) := by
    calc (2 : ℝ) ^ (-123 : ℤ) = 2 ^ (-114 : ℤ) * 2 ^ (-9 : ℤ) := by rw [← zpow_add₀ (by norm_num)]; norm_num
      _ ≤ _ := mul_le_mul h1 hc1 (by positivity) hα.le
  have b2 : α * (9586981 * (2 : ℝ) ^ (-32 : ℤ)) ≤ (2 : ℝ) ^ (119 : ℤ) := by
    calc _ ≤ (2 : ℝ) ^ (127 : ℤ) * 2 ^ (-8 : ℤ) := mul_le_mul h2 hc2 (by positivity) (by positivity)
      _ = _ := by rw [← zpow_add₀ (by norm_num)]; norm_num
  constructor
  · unfold lgZ
    rw [Int.le_floor, le_div_iff₀ l2, ← Real.log_zpow]
    exact Real.log_le_log (by positivity) (by exact_mod_cast b1)
  · unfold lgZ
    have h : Real.log (α * (9586981 * (2 : ℝ) ^ (-32 : ℤ))) / Real.log 2 ≤ ((119 : ℤ) : ℝ) := by
      rw [div_le_iff₀ l2, ← Real.log_zpow]
      exact Real.log_le_log (by positivity) (by exact_mod_cast b2)
    exact_mod_cast (Int.floor_le _).trans h

/-- An integer within range is converted to itself. -/
theorem fptosi_coe (z : ℤ) (h1 : -123 ≤ z) (h2 : z ≤ 119) : Ideal.fptosi 32 ((z : ℝ) : EReal) = BitVec.ofInt 32 z := by
  have hf : ⌊(z : ℝ)⌋ = z := Int.floor_intCast z
  have hc : ⌈(z : ℝ)⌉ = z := Int.ceil_intCast z
  unfold Ideal.fptosi
  rw [Ideal.toIntClamped_coe, hf, hc, ite_self]
  congr 1
  norm_num
  omega

/-- The bias added to an integer 136 below a natural number leaves that number. -/
theorem add_bias (n : ℕ) : BitVec.ofInt 32 ((n : ℤ) - 136) + 136#32 = BitVec.ofNat 32 n := by
  apply BitVec.eq_of_toNat_eq
  rw [BitVec.toNat_add, BitVec.toNat_ofInt, BitVec.toNat_ofNat, BitVec.toNat_ofNat]
  omega

/-- Shifting a small number into the field and taking eight off it. -/
theorem shift_sub (n : ℕ) (h1 : 8 ≤ n) (h2 : n ≤ 255) :
    BitVec.ofNat 32 n <<< 23#32 - 67108864#32 = BitVec.ofNat 32 ((n - 8) * 8388608) := by
  apply BitVec.eq_of_toNat_eq
  rw [BitVec.toNat_sub, BitVec.shiftLeft_eq', BitVec.toNat_shiftLeft, BitVec.toNat_ofNat, BitVec.toNat_ofNat,
    BitVec.toNat_ofNat, BitVec.toNat_ofNat, Nat.shiftLeft_eq]
  norm_num
  omega

/-- The kernel's integer arithmetic puts the exponent into the field. -/
theorem field_eq (z : ℤ) (h1 : -123 ≤ z) (h2 : z ≤ 119) :
    IntOp.subi (IntOp.shli ArithUnit.vector (IntOp.addi (BitVec.ofInt 32 z) 136#32) 23#32) 67108864#32
      = BitVec.ofNat 32 ((z + 128).toNat * 8388608) := by
  obtain ⟨n, rfl⟩ : ∃ n : ℕ, z = (n : ℤ) - 136 := ⟨(z + 136).toNat, by omega⟩
  have hn : ((n : ℤ) - 136 + 128).toNat = n - 8 := by omega
  unfold IntOp.subi IntOp.shli IntOp.addi
  rw [if_pos (by decide), add_bias, hn, shift_sub n (by omega) (by omega)]

/-- The field of the inverse scale. -/
theorem field_inv (n : ℕ) (h2 : n ≤ 254) :
    IntOp.subi 2130706432#32 (BitVec.ofNat 32 (n * 8388608)) = BitVec.ofNat 32 ((254 - n) * 8388608) := by
  unfold IntOp.subi
  apply BitVec.eq_of_toNat_eq
  rw [BitVec.toNat_sub, BitVec.toNat_ofNat, BitVec.toNat_ofNat, BitVec.toNat_ofNat]
  norm_num
  omega

/-- Two to an integer power, as the reference computes it. -/
theorem exp2_int (z : ℤ) : Ideal.exp2 ((z : ℝ) : EReal) = (((2 : ℝ) ^ z : ℝ) : EReal) := by
  rw [Ideal.exp2_coe]
  exact congrArg _ (Real.rpow_intCast 2 z)

/-- Both scales of a group whose greatest magnitude is a real number in range. -/
theorem scale_pos (α : ℝ) (h1 : (2 : ℝ) ^ (-114 : ℤ) ≤ α) (h2 : α ≤ (2 : ℝ) ^ (127 : ℤ)) :
    Ideal.ofBits .f32 (kbits α) = Ideal.exp2 (rexp α)
      ∧ Ideal.ofBits .f32 (IntOp.subi 2130706432#32 (kbits α)) = Ideal.exp2 (0 - rexp α) := by
  have hα : 0 < α := lt_of_lt_of_le (by positivity) h1
  have hne : (α : EReal) ≠ 0 := by exact_mod_cast hα.ne'
  obtain ⟨l, u⟩ := lgZ_bounds α h1 h2
  have hk : kbits α = BitVec.ofNat 32 ((lgZ α + 128).toNat * 8388608) := by
    unfold kbits
    rw [if_neg hne, lg_coe α hα, fptosi_coe _ l u, field_eq _ l u]
  have hr : rexp α = (((lgZ α + 1 : ℤ) : ℝ) : EReal) := by
    unfold rexp
    rw [if_neg hne, lg_coe α hα]
    push_cast
    rfl
  have hr' : (0 : EReal) - (((lgZ α + 1 : ℤ) : ℝ) : EReal) = (((-(lgZ α + 1) : ℤ) : ℝ) : EReal) := by
    rw [zero_sub]; push_cast; rfl
  rw [hk, hr, hr', field_inv _ (by omega), Consts.field _ (by omega) (by omega), Consts.field _ (by omega) (by omega), exp2_int, exp2_int]
  constructor
  · congr 2; omega
  · congr 2; omega

/-- Both scales of an all-zero group are one. -/
theorem scale_zero :
    Ideal.ofBits .f32 (kbits 0) = Ideal.exp2 (rexp 0)
      ∧ Ideal.ofBits .f32 (IntOp.subi 2130706432#32 (kbits 0)) = Ideal.exp2 (0 - rexp 0) := by
  have hk : kbits 0 = BitVec.ofNat 32 (127 * 8388608) := by unfold kbits; rw [if_pos rfl]
  have hr : rexp 0 = (((0 : ℤ) : ℝ) : EReal) := by unfold rexp; rw [if_pos rfl]; norm_num
  have hr' : (0 : EReal) - (((0 : ℤ) : ℝ) : EReal) = (((0 : ℤ) : ℝ) : EReal) := by norm_num
  rw [hk, hr, hr', field_inv _ (by omega), Consts.field _ (by omega) (by omega), exp2_int]
  norm_num

end Cert.Spec
end
-- ==== Proof.Equal.lean ====
/- For a group in range, the kernel's scale and codes are the reference's. -/
module

public import proofs.«01_k».proof.Proof.Scale

@[expose] public section
noncomputable section
namespace Cert.Spec
open Idealize.ShloMosaic

/-- The greater of a real number and its negative is its magnitude. -/
theorem max_neg_coe (r : ℝ) : max (r : EReal) (-(r : EReal)) = ((|r| : ℝ) : EReal) := by
  rw [← EReal.coe_neg, abs_eq_max_neg]
  exact (EReal.coe_strictMono.monotone.map_max).symm

/-- A magnitude below a real number is a real number's. -/
theorem exists_real (x : EReal) (b : ℝ) (h : max x (-x) ≤ (b : EReal)) : ∃ r : ℝ, x = r := by
  induction x with
  | bot => simp at h
  | top => simp at h
  | coe r => exact ⟨r, rfl⟩

/-- The entries of a group in range are real numbers. -/
theorem InRange.real {g : Fin 128 → EReal} (h : InRange g) (k : Fin 128) : ∃ r : ℝ, g k = r := by
  rcases h with h | ⟨-, h⟩
  · exact ⟨0, by rw [h k]; rfl⟩
  · exact exists_real _ _ (h k)

/-- The two forms of GELU agree on the entries of a group in range. -/
theorem val_eq {g : Fin 128 → EReal} (h : InRange g) (k : Fin 128) : kval (g k) = rval (g k) := by
  obtain ⟨r, e⟩ := h.real k
  rw [e, kval_coe, rval_coe]

/-- So do the group's greatest magnitudes. -/
theorem big_eq {g : Fin 128 → EReal} (h : InRange g) : big kval g = big rval g := by
  unfold big
  congr 1
  funext k
  rw [val_eq h k]

/-- GELU of zero. -/
theorem gelu_zero : gelu 0 = 0 := by unfold gelu; rw [zero_mul]

/-- The greatest magnitude of a group in range is zero, or a real number between two to the -114 and two to the 127. -/
theorem big_cases {g : Fin 128 → EReal} (h : InRange g) :
    big rval g = 0 ∨ ∃ α : ℝ, big rval g = α ∧ (2 : ℝ) ^ (-114 : ℤ) ≤ α ∧ α ≤ (2 : ℝ) ^ (127 : ℤ) := by
  rcases h with h | ⟨⟨k, h4, h90⟩, h127⟩
  · left
    have z : rval 0 = 0 := by
      have := rval_coe 0
      rw [gelu_zero] at this
      exact_mod_cast this
    unfold big
    rw [Consts.neg_inf]
    apply le_antisymm
    · rw [Finset.fold_max_le]
      exact ⟨bot_le, fun k _ => by rw [h k, z]; simp⟩
    · rw [Finset.le_fold_max]
      exact Or.inr ⟨0, Finset.mem_univ _, by rw [h 0, z]; simp⟩
  · right
    have hu : big rval g ≤ (((2 : ℝ) ^ (127 : ℤ) : ℝ) : EReal) := by
      unfold big
      rw [Consts.neg_inf, Finset.fold_max_le]
      refine ⟨bot_le, fun j _ => ?_⟩
      obtain ⟨r, e⟩ := exists_real _ _ (h127 j)
      have hj := h127 j
      rw [e, max_neg_coe, EReal.coe_le_coe_iff] at hj
      rw [e, rval_coe, max_neg_coe, EReal.coe_le_coe_iff]
      exact (gelu_le r).trans hj
    have hl : (((2 : ℝ) ^ (-114 : ℤ) : ℝ) : EReal) ≤ big rval g := by
      unfold big
      rw [Finset.le_fold_max]
      refine Or.inr ⟨k, Finset.mem_univ _, ?_⟩
      obtain ⟨r, e⟩ := exists_real _ _ (h127 k)
      rw [e, EReal.coe_le_coe_iff] at h4
      rw [e, max_neg_coe, EReal.coe_le_coe_iff] at h90
      rw [e, rval_coe, max_neg_coe, EReal.coe_le_coe_iff]
      refine le_trans ?_ (gelu_ge r h4)
      calc (2 : ℝ) ^ (-114 : ℤ) = 2 ^ (-90 : ℤ) * 2 ^ (-24 : ℤ) := by rw [← zpow_add₀ (by norm_num)]; norm_num
        _ ≤ _ := mul_le_mul_of_nonneg_right h90 (by positivity)
    obtain ⟨y, ey⟩ : ∃ y : ℝ, (2 : ℝ) ^ (127 : ℤ) = y := ⟨_, rfl⟩
    rw [ey] at hu ⊢
    generalize big rval g = a at hu hl
    induction a with
    | bot => simp at hl
    | top => simp at hu
    | coe α => exact ⟨α, rfl, EReal.coe_le_coe_iff.mp hl, EReal.coe_le_coe_iff.mp hu⟩

/-- Both scales, and both inverse scales, of a group in range are equal. -/
theorem scales {g : Fin 128 → EReal} (h : InRange g) :
    kscale g = rscale g
      ∧ Ideal.ofBits .f32 (IntOp.subi 2130706432#32 (kbits (big kval g))) = Ideal.exp2 (0 - rexp (big rval g)) := by
  unfold kscale rscale
  rw [big_eq h]
  rcases big_cases h with e | ⟨α, e, h1, h2⟩
  · rw [e]; exact scale_zero
  · rw [e]; exact scale_pos α h1 h2

/-- The scales of a group in range are equal. -/
theorem scale_eq {g : Fin 128 → EReal} (h : InRange g) : kscale g = rscale g := (scales h).1

/-- The codes of a group in range are equal. -/
theorem code_eq {g : Fin 128 → EReal} (h : InRange g) (k : Fin 128) : kcode g k = rcode g k := by
  unfold kcode rcode
  rw [(scales h).2, val_eq h k]

end Cert.Spec
end
-- ==== Proof.PreRead.lean ====
/- What the precondition says of an array's groups. -/
module

public import proofs.«01_k».proof.Proof.Gen.Pre_groups_in_range
public import proofs.«01_k».proof.Proof.Consts
public import proofs.«01_k».proof.Proof.Spec
public import Idealize.ShloMosaic.Lib.Pointwise

@[expose] public section
set_option maxRecDepth 16384
noncomputable section
namespace Cert.Pre_groups_in_range
open Idealize.ShloMosaic Cert.Spec

/-- A one-bit word made of a truth value is 1 when it holds. -/
theorem ofBool_one (p : Prop) [Decidable p] : BitVec.ofBool (decide p) = 1#1 ↔ p := by
  by_cases h : p <;> simp [h]
/-- A one-bit `or` is 1 when a side is. -/
theorem ori_one (a b : BitVec 1) : IntOp.ori a b = 1#1 ↔ a = 1#1 ∨ b = 1#1 := by
  revert a b; decide
/-- A one-bit `and` is 1 when both sides are. -/
theorem andi_one (a b : BitVec 1) : IntOp.andi a b = 1#1 ↔ a = 1#1 ∧ b = 1#1 := by
  revert a b; decide

/-- Group `l` of row `(b, r)` of the argument. -/
def grp (v : FVec Ideal S26x1024x5120 .bf16) (b : Fin 26) (r : Fin 1024) (l : Fin 40) : Fin 128 → EReal :=
  fun k => v (ix3 b r ⟨l.val * 128 + k.val, by omega⟩)

/-- Where the greatest magnitude is zero, every entry is. -/
theorem zero_of_fold (g : Fin 128 → EReal)
    (h : Finset.fold max (Ideal.ofBits .f32 0xFF800000#32) (fun k => max (g k) (-g k)) Finset.univ = 0) (k : Fin 128) : g k = 0 := by
  have h1 := (Finset.fold_max_le (b := Ideal.ofBits .f32 0xFF800000#32) (f := fun k => max (g k) (-g k)) (s := Finset.univ) 0).mp h.le
  have h2 := h1.2 k (Finset.mem_univ _)
  have h3 : -g k ≤ 0 := (le_max_right _ _).trans h2
  exact le_antisymm ((le_max_left _ _).trans h2) (by simpa using h3)

open Facts in
/-- The argument cut into groups. -/
def cut (v : FVec Ideal S26x1024x5120 .bf16) : FVec Ideal S26x1024x40x128 .f32 :=
  shapeCast S26x1024x40x128 ((extf .f32 · bitsLt_bf16_f32) v) shapeCasts_S26x1024x5120_S26x1024x40x128

/-- An entry of the argument cut into groups. -/
theorem cut_read (v : FVec Ideal S26x1024x5120 .bf16) (b : Fin 26) (r : Fin 1024) (l : Fin 40) (k : Fin 128) :
    cut v (ix4 b r l k) = grp v b r l k := by
  pointwise [cut]
  rfl

open Facts in
/-- The greatest entry of each group. -/
def tops (a : FVec Ideal S26x1024x40x128 .f32) : FVec Ideal S26x1024x40 .f32 :=
  Host.reduce FloatOps.maximumf a (constant S_ .f32 0xFF800000#32) reducesTo_S26x1024x40x128_S26x1024x40_d3 h_S_

/-- A group's greatest entry. -/
theorem tops_read (a : FVec Ideal S26x1024x40x128 .f32) (b : Fin 26) (r : Fin 1024) (l : Fin 40) :
    tops a (ix3 b r l) = Finset.fold max (Ideal.ofBits .f32 0xFF800000#32) (fun k : Fin 128 => a (ix4 b r l k)) Finset.univ := by
  pointwise [tops]

/-- The magnitudes of an array. -/
theorem abs_read (a : FVec Ideal S26x1024x40x128 .f32) (b : Fin 26) (r : Fin 1024) (l : Fin 40) (k : Fin 128) :
    Host.absf a (ix4 b r l k) = max (a (ix4 b r l k)) (-a (ix4 b r l k)) := by
  pointwise []
  rfl

open Facts in
/-- The magnitudes of the entries no less than -4, zero in the others' places. -/
def live (a : FVec Ideal S26x1024x40x128 .f32) : FVec Ideal S26x1024x40x128 .f32 :=
  fn_where (F := Ideal)
    (cmpf .oge a (broadcastInDim S26x1024x40x128 ![] bcast_S_S26x1024x40x128 (constant S_ .f32 0xC0800000#32)))
    (Host.absf a) (constant S_ .f32 0x00000000#32)

/-- A live magnitude. -/
theorem live_read (a : FVec Ideal S26x1024x40x128 .f32) (b : Fin 26) (r : Fin 1024) (l : Fin 40) (k : Fin 128) :
    live a (ix4 b r l k)
      = if Ideal.ofBits .f32 0xC0800000#32 ≤ a (ix4 b r l k) then Host.absf a (ix4 b r l k) else 0 := by
  pointwise [live, fn_where]
  rw [id, constant]
  exact congrArg (ite _ _) (Ideal.ofBits_zero .f32)

open Facts in
/-- The comparisons of each group's greatest magnitude `s` and greatest live magnitude `t`. -/
def test (s t : FVec Ideal S26x1024x40 .f32) : IVec S26x1024x40 1 :=
  ori (cmpf .oeq s (broadcastInDim S26x1024x40 ![] bcast_S_S26x1024x40 (constant S_ .f32 0x00000000#32)))
    (andi (cmpf .oge t (broadcastInDim S26x1024x40 ![] bcast_S_S26x1024x40 (constant S_ .f32 0x12800000#32)))
      (cmpf .ole s (broadcastInDim S26x1024x40 ![] bcast_S_S26x1024x40 (constant S_ .f32 0x7F000000#32))))

/-- What the comparisons say. -/
theorem test_read (s t : FVec Ideal S26x1024x40 .f32) (b : Fin 26) (r : Fin 1024) (l : Fin 40) (h : test s t (ix3 b r l) = 1#1) :
    s (ix3 b r l) = 0 ∨ (Ideal.ofBits .f32 0x12800000#32 ≤ t (ix3 b r l) ∧ s (ix3 b r l) ≤ Ideal.ofBits .f32 0x7F000000#32) := by
  pointwise [test] at h
  rw [ori_one, andi_one, ofBool_one, ofBool_one, ofBool_one] at h
  exact h

/-- The precondition by its parts. -/
theorem fn_eq (v : FVec Ideal S26x1024x5120 .bf16) : fn v = test (tops (Host.absf (cut v))) (tops (live (cut v))) := rfl

/-- A group at which the precondition holds is in range. -/
theorem inRange (v : FVec Ideal S26x1024x5120 .bf16) (b : Fin 26) (r : Fin 1024) (l : Fin 40) (h : fn v (ix3 b r l) = 1#1) :
    InRange (grp v b r l) := by
  rw [fn_eq] at h
  have h := test_read _ _ _ _ _ h
  rw [tops_read, tops_read, Consts.small, Consts.large] at h
  simp only [live_read, abs_read, cut_read] at h
  rcases h with h | ⟨h1, h2⟩
  · exact Or.inl (zero_of_fold (grp v b r l) h)
  · right
    constructor
    · rw [Finset.le_fold_max] at h1
      rcases h1 with h1 | ⟨k, -, h1⟩
      · rw [Consts.neg_inf] at h1
        simp at h1
      · rw [Consts.minus_four] at h1
        split at h1
        · rename_i h4
          exact ⟨k, h4, h1⟩
        · rw [← EReal.coe_zero, EReal.coe_le_coe_iff] at h1
          exact absurd h1 (not_le.mpr (by positivity))
    · rw [Finset.fold_max_le] at h2
      exact fun k => h2.2 k (Finset.mem_univ _)

end Cert.Pre_groups_in_range
end
-- ==== Proof.Algebraic.lean ====
/- The kernel's results equal the reference's, over the extended reals. -/
module

public import proofs.«01_k».proof.Defs
public import proofs.«01_k».proof.Proof.Entry
public import proofs.«01_k».proof.Proof.Equal
public import proofs.«01_k».proof.Proof.PreRead

@[expose] public section
set_option maxRecDepth 16384
noncomputable section
namespace Cert.Proof.Algebraic
open Idealize.ShloMosaic Idealize.ShloMosaic.TcCoe Idealize.SL.Sem Cert.Spec

/-- An index of a rank-2 array by its two coordinates. -/
theorem eq_ix2 {a b : ℕ} (y : (⟨2, ![a, b]⟩ : Shape).Idx) : ∃ (n : Fin a) (j : Fin b), y = ix2 n j := by
  refine ⟨y 0, y 1, ?_⟩
  funext d
  match d with
  | ⟨0, _⟩ => rfl
  | ⟨1, _⟩ => rfl

section arrays
variable (X : Vec Ideal ⟨2, ![26624, 5120]⟩ .bf16)
  (h : ∀ (n : Fin 26624) (g : Fin 40), InRange (KernelIdeal.Array.grpOf X n g))
include h

/-- The scales of an array whose groups are in range. -/
theorem scales_eq : KernelIdeal.Array.scales X = ReferenceIdeal.Gen.k0_pay5 X := by
  funext y
  obtain ⟨n, j, rfl⟩ := eq_ix2 y
  rw [ReferenceIdeal.Read.scale_read]
  exact scale_eq (h _ _)

/-- The codes of an array whose groups are in range. -/
theorem codes_eq : KernelIdeal.Array.codes X = ReferenceIdeal.Gen.k0_pay1 (ReferenceIdeal.Gen.k0_pay6 X) := by
  funext y
  obtain ⟨n, j, rfl⟩ := eq_ix2 y
  rw [ReferenceIdeal.Read.code_read]
  exact code_eq (h _ _) _

/-- The values read back of an array whose groups are in range. -/
theorem backs_eq : KernelIdeal.Array.backs X
    = ReferenceIdeal.Gen.k0_pay2 (ReferenceIdeal.Gen.k0_pay5 X) (ReferenceIdeal.Gen.k0_pay6 X) := by
  funext y
  obtain ⟨n, j, rfl⟩ := eq_ix2 y
  rw [ReferenceIdeal.Read.back_read]
  exact congrArg₂ (· * ·) (code_eq (h _ _) _) (scale_eq (h _ _))

end arrays

/-- Both programs read the same array when their arguments agree. -/
theorem arr_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    ReferenceIdeal.Run.arr m' c = KernelIdeal.Array.arr m c := by
  funext y
  obtain ⟨n, j, rfl⟩ := eq_ix2 y
  refine (Entry.reference m' c _ _).trans (Eq.trans ?_ (Entry.kernel m c _ _).symm)
  exact congrFun h _

/-- Under the precondition every group of the array read is in range. -/
theorem inRange (m : (ℓ : Loc KernelIdeal.nD KernelIdeal.τ KernelIdeal.sig) → Buf (Elt Ideal) ℓ)
    (h : Cert.Pre_KernelIdeal_groups_in_range m) (c : Dev KernelIdeal.nD) (n : Fin 26624) (g : Fin 40) :
    InRange (KernelIdeal.Array.grpOf (KernelIdeal.Array.arr m c) n g) := by
  have e := Pre_groups_in_range.inRange _ ⟨n.val / 1024, by omega⟩ ⟨n.val % 1024, by omega⟩ g (congrFun (h c) _)
  have e2 : KernelIdeal.Array.grpOf (KernelIdeal.Array.arr m c) n g
      = Pre_groups_in_range.grp (m ((c.tc : Thread KernelIdeal.nD KernelIdeal.τ).loc KernelIdeal.main_arg0))
        ⟨n.val / 1024, by omega⟩ ⟨n.val % 1024, by omega⟩ g := by
    funext k
    exact Entry.kernel m c n _
  rw [e2]
  exact e

/-- From equal arguments, in range, the two programs end with equal results and unchanged arguments. -/
theorem algebraic : Cert.algebraic_KernelIdeal_ReferenceIdeal_pre_groups_in_range := by
  intro m g m' g' hp ha
  refine ⟨fun c => KernelIdeal.Array.backs (KernelIdeal.Array.arr m c), fun c => KernelIdeal.Array.codes (KernelIdeal.Array.arr m c),
    fun c => KernelIdeal.Array.scales (KernelIdeal.Array.arr m c), ?_, ?_⟩
  · refine (θ_run KernelIdeal.defs _ _).mono (fun r hr c => ?_) (KernelIdeal.Value.run_blocks m g)
    obtain ⟨h0, h1, h2, h3⟩ := hr c
    exact ⟨h0.trans (KernelIdeal.Array.back_arr m c), h1.trans (KernelIdeal.Array.code_arr m c),
      h2.trans (KernelIdeal.Array.scale_arr m c), h3⟩
  · refine (θ_run ReferenceIdeal.defs _ _).mono (fun r hr c => ?_) (ReferenceIdeal.Run.run_arrays m' g')
    obtain ⟨h0, h1, h2, h3⟩ := hr c
    have e := arr_eq m m' c (ha c)
    refine ⟨h0.trans ?_, h1.trans ?_, h2.trans ?_, h3⟩
    · rw [ReferenceIdeal.Run.back_arr, e]
      exact (backs_eq _ (inRange m hp c)).symm
    · rw [ReferenceIdeal.Run.code_arr, e]
      exact (codes_eq _ (inRange m hp c)).symm
    · rw [ReferenceIdeal.Run.scale_arr, e]
      exact (scales_eq _ (inRange m hp c)).symm

end Cert.Proof.Algebraic
end
-- ==== Proof.lean ====
/- The claims of this certificate, assembled from the modules that prove them. -/
module

public import proofs.«01_k».proof.Defs
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_groups_in_range.Gen.facts,
    Frames.kernel, Frames.kernel_ideal, Frames.kernel_ideal_pre, Frames.reference_ideal, Frames.reference_ideal_pre,
    Frames.preserves, Algebraic.algebraic⟩

end Cert.Proof

end
